-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_valid_inputs [hPre_valid_inputs : Cert.Pre_valid_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_valid_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_inputs [hPre_valid_inputs : Cert.Pre_valid_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_valid_inputs [hKernelIdeal : Cert.KernelIdeal.Facts] [hPre_valid_inputs : Cert.Pre_valid_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_valid_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_valid_inputs [hReferenceIdeal : Cert.ReferenceIdeal.Facts] [hPre_valid_inputs : Cert.Pre_valid_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_valid_inputs [hKernelIdeal : Cert.KernelIdeal.Facts] [hReferenceIdeal : Cert.ReferenceIdeal.Facts] [hPre_valid_inputs : Cert.Pre_valid_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_valid_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_valid_inputs : Cert.Pre_valid_inputs.Facts),
    quiescent_Kernel (hKernel := hKernel)
    ∧ quiescent_KernelIdeal (hKernelIdeal := hKernelIdeal)
    ∧ quiescent_KernelIdeal_pre_valid_inputs (hKernelIdeal := hKernelIdeal) (hPre_valid_inputs := hPre_valid_inputs)
    ∧ quiescent_ReferenceIdeal (hReferenceIdeal := hReferenceIdeal)
    ∧ quiescent_ReferenceIdeal_pre_valid_inputs (hReferenceIdeal := hReferenceIdeal) (hPre_valid_inputs := hPre_valid_inputs)
    ∧ preserves_Kernel_KernelIdeal
    ∧ algebraic_KernelIdeal_ReferenceIdeal_pre_valid_inputs (hKernelIdeal := hKernelIdeal) (hReferenceIdeal := hReferenceIdeal) (hPre_valid_inputs := hPre_valid_inputs)
-- ==== Pre_valid_inputs.lean ====
abbrev S64x768x24x24 : Shape := ⟨4, ![64, 768, 24, 24]⟩
abbrev S64 : Shape := ⟨1, ![64]⟩
abbrev S4x768 : Shape := ⟨2, ![4, 768]⟩
abbrev S4 : Shape := ⟨1, ![4]⟩
abbrev S_ : Shape := ⟨0, ![]⟩
abbrev S64x1 : Shape := ⟨2, ![64, 1]⟩
abbrev S64x768 : Shape := ⟨2, ![64, 768]⟩
abbrev S64x768x1x1 : Shape := ⟨4, ![64, 768, 1, 1]⟩
abbrev S64x24x24 : Shape := ⟨3, ![64, 24, 24]⟩

class Facts : Prop where
  bcast_S_S64 : S_.BroadcastsInDim S64 (![] : Fin 0 → Fin S64.rank)
  bcast_S64_S64x1_0 : S64.BroadcastsInDim S64x1 (![0] : Fin 1 → Fin S64x1.rank)
  bcast_S64x768_S64x768x1x1_0_1 : S64x768.BroadcastsInDim S64x768x1x1 (![0, 1] : Fin 2 → Fin S64x768x1x1.rank)
  bcast_S64x768x1x1_S64x768x24x24_0_1_2_3 : S64x768x1x1.BroadcastsInDim S64x768x24x24 (![0, 1, 2, 3] : Fin 4 → Fin S64x768x24x24.rank)
  reducesTo_S64x768x24x24_S64x24x24_d1 : S64x768x24x24.ReducesTo [1] S64x24x24
  h_S_ : 0 < S_.numel
  reducesTo_S64_S_d0 : S64.ReducesTo [0] S_
  bcast_S_S64x24x24 : S_.BroadcastsInDim S64x24x24 (![] : Fin 0 → Fin S64x24x24.rank)
  reducesTo_S64x24x24_S_d0_1_2 : S64x24x24.ReducesTo [0, 1, 2] S_
  gather_S4x768_S64x1_S64x768_1_0_n_n_0_1_1768_wf : GatherDims.WF S4x768 S64x1 S64x768 [1] [0] [] [0] [] 1 ![1, 768]

variable [Facts]

def gather_S4x768_S64x1_S64x768_1_0_n_n_0_1_1768 : GatherDims S4x768 S64x1 S64x768 where
  offsetDims := [1]
  collapsedSliceDims := [0]
  operandBatchingDims := []
  startIndicesBatchingDims := []
  startIndexMap := [0]
  indexVectorDim := 1
  sliceSizes := ![1, 768]
  wf := gather_S4x768_S64x1_S64x768_1_0_n_n_0_1_1768_wf
def fn_part1 {F : FTy → Type} [FloatOps F] (main_v12 : FVec F S64x24x24 .f32) (main_v17 : IVec S64 1) : IVec S_ 1 :=
  let main_c_4 : IVec S_ 1 := constantI S_ 1 1#1
  let main_v18 : IVec S_ 1 := (fun x v => Host.reduce IntOp.andi x v reducesTo_S64_S_d0 h_S_) main_v17 main_c_4
  let main_cst_5 : FVec F S_ .f32 := constant S_ .f32 0x00000000#32
  let main_v19 : FVec F S64x24x24 .f32 := broadcastInDim S64x24x24 ![] bcast_S_S64x24x24 main_cst_5
  let main_v20 : IVec S64x24x24 1 := cmpf .une main_v12 main_v19
  let main_c_6 : IVec S_ 1 := constantI S_ 1 1#1
  let main_v21 : IVec S_ 1 := (fun x v => Host.reduce IntOp.andi x v reducesTo_S64x24x24_S_d0_1_2 h_S_) main_v20 main_c_6
  let main_v22 : IVec S_ 1 := andi main_v18 main_v21
  main_v22

def fn {F : FTy → Type} [FloatOps F] (main_arg0 : FVec F S64x768x24x24 .f32) (main_arg1 : IVec S64 32) (main_arg2 : FVec F S4x768 .f32) (main_arg3 : FVec F S4 .f32) : IVec S_ 1 :=
  let main_c : IVec S_ 32 := constantI S_ 32 0#32
  let main_v0 : IVec S64 32 := broadcastInDim S64 ![] bcast_S_S64 main_c
  let main_v1 : IVec S64 1 := cmpi .slt main_arg1 main_v0
  let main_c_0 : IVec S_ 32 := constantI S_ 32 4#32
  let main_v2 : IVec S64 32 := broadcastInDim S64 ![] bcast_S_S64 main_c_0
  let main_v3 : IVec S64 32 := addi main_arg1 main_v2
  let main_v4 : IVec S64 32 := select main_v1 main_v3 main_arg1
  let main_v5 : IVec S64x1 32 := broadcastInDim S64x1 ![0] bcast_S64_S64x1_0 main_v4
  let main_v6 : FVec F S64x768 .f32 := (fun x i => Host.gather gather_S4x768_S64x1_S64x768_1_0_n_n_0_1_1768 x i) main_arg2 main_v5
  let main_v7 : FVec F S64x768x1x1 .f32 := broadcastInDim S64x768x1x1 ![0, 1] bcast_S64x768_S64x768x1x1_0_1 main_v6
  let main_v8 : FVec F S64x768x24x24 .f32 := broadcastInDim S64x768x24x24 ![0, 1, 2, 3] bcast_S64x768x1x1_S64x768x24x24_0_1_2_3 main_v7
  let main_v9 : FVec F S64x768x24x24 .f32 := mulf main_arg0 main_v8
  let main_cst : FVec F S_ .f32 := constant S_ .f32 0xFF800000#32
  let main_v10 : FVec F S64x24x24 .f32 := (fun x v => Host.reduce FloatOps.maximumf x v reducesTo_S64x768x24x24_S64x24x24_d1 h_S_) main_v9 main_cst
  let main_cst_1 : FVec F S_ .f32 := constant S_ .f32 0x7F800000#32
  let main_v11 : FVec F S64x24x24 .f32 := (fun x v => Host.reduce FloatOps.minimumf x v reducesTo_S64x768x24x24_S64x24x24_d1 h_S_) main_v9 main_cst_1
  let main_v12 : FVec F S64x24x24 .f32 := subf main_v10 main_v11
  let main_c_2 : IVec S_ 32 := constantI S_ 32 0#32
  let main_v13 : IVec S64 32 := broadcastInDim S64 ![] bcast_S_S64 main_c_2
  let main_v14 : IVec S64 1 := cmpi .sge main_arg1 main_v13
  let main_c_3 : IVec S_ 32 := constantI S_ 32 4#32
  let main_v15 : IVec S64 32 := broadcastInDim S64 ![] bcast_S_S64 main_c_3
  let main_v16 : IVec S64 1 := cmpi .slt main_arg1 main_v15
  let main_v17 : IVec S64 1 := andi main_v14 main_v16
  fn_part1 (F := F) main_v12 main_v17
-- ==== Kernel.lean ====
abbrev S64x768x24x24 : Shape := ⟨4, ![64, 768, 24, 24]⟩
abbrev S64 : Shape := ⟨1, ![64]⟩
abbrev S4x768 : Shape := ⟨2, ![4, 768]⟩
abbrev S4 : Shape := ⟨1, ![4]⟩
abbrev S64x768x576 : Shape := ⟨3, ![64, 768, 576]⟩
abbrev S768x4 : Shape := ⟨2, ![768, 4]⟩
abbrev S1x4 : Shape := ⟨2, ![1, 4]⟩
abbrev S64x1x4 : Shape := ⟨3, ![64, 1, 4]⟩
abbrev S64x768 : Shape := ⟨2, ![64, 768]⟩
abbrev S4x768x576 : Shape := ⟨3, ![4, 768, 576]⟩
abbrev S4x1x4 : Shape := ⟨3, ![4, 1, 4]⟩
abbrev S64x1x768 : Shape := ⟨3, ![64, 1, 768]⟩
abbrev S576x1 : Shape := ⟨2, ![576, 1]⟩
abbrev S1 : Shape := ⟨1, ![1]⟩
abbrev S1x768x576 : Shape := ⟨3, ![1, 768, 576]⟩
abbrev S768x576 : Shape := ⟨2, ![768, 576]⟩
abbrev S768x1 : Shape := ⟨2, ![768, 1]⟩
abbrev S1x1x4 : Shape := ⟨3, ![1, 1, 4]⟩
abbrev S576 : Shape := ⟨1, ![576]⟩
abbrev S1x576 : Shape := ⟨2, ![1, 576]⟩
abbrev S768 : Shape := ⟨1, ![768]⟩
abbrev S1x768 : Shape := ⟨2, ![1, 768]⟩
abbrev S1x1x768 : Shape := ⟨3, ![1, 1, 768]⟩
abbrev S64x768x1 : Shape := ⟨3, ![64, 768, 1]⟩
abbrev S64x768x768 : Shape := ⟨3, ![64, 768, 768]⟩
abbrev S64x1 : Shape := ⟨2, ![64, 1]⟩
abbrev S768x768 : Shape := ⟨2, ![768, 768]⟩
abbrev S64x4 : Shape := ⟨2, ![64, 4]⟩
abbrev S64x768x1x1 : Shape := ⟨4, ![64, 768, 1, 1]⟩

abbrev nBuf : Space → Nat
  | .hbm => 10
  | .vmem => 9
  | .smem => 1
  | _ => 0

abbrev bufTy : (tb : Table) → Fin (tcTables nBuf tb) → BufTy
  | .hbm, ⟨0, _⟩ => ⟨S64x768x24x24, .f32⟩
  | .hbm, ⟨1, _⟩ => ⟨S4x768, .f32⟩
  | .hbm, ⟨2, _⟩ => ⟨S4, .f32⟩
  | .hbm, ⟨3, _⟩ => ⟨S64x768x576, .f32⟩
  | .hbm, ⟨4, _⟩ => ⟨S768x4, .f32⟩
  | .hbm, ⟨5, _⟩ => ⟨S1x4, .f32⟩
  | .hbm, ⟨6, _⟩ => ⟨S64x1x4, .f32⟩
  | .hbm, ⟨7, _⟩ => ⟨S64x768, .f32⟩
  | .hbm, ⟨8, _⟩ => ⟨S64x4, .f32⟩
  | .hbm, ⟨9, _⟩ => ⟨S64x768x1x1, .f32⟩
  | .local _ .vmem, ⟨0, _⟩ => ⟨S4x768x576, .f32⟩
  | .local _ .vmem, ⟨1, _⟩ => ⟨S4x768x576, .f32⟩
  | .local _ .vmem, ⟨2, _⟩ => ⟨S4x768, .f32⟩
  | .local _ .vmem, ⟨3, _⟩ => ⟨S768x4, .f32⟩
  | .local _ .vmem, ⟨4, _⟩ => ⟨S1x4, .f32⟩
  | .local _ .vmem, ⟨5, _⟩ => ⟨S4x1x4, .f32⟩
  | .local _ .vmem, ⟨6, _⟩ => ⟨S4x1x4, .f32⟩
  | .local _ .vmem, ⟨7, _⟩ => ⟨S64x768, .f32⟩
  | .local _ .vmem, ⟨8, _⟩ => ⟨S64x1x768, .f32⟩
  | .local _ .smem, ⟨0, _⟩ => ⟨S64, .i32⟩
  | _, _ => ⟨S64x768x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let c4_i32 : BitVec 32 := 4#32
  let arg0 : BitVec 32 := BitVec.ofNat 32 (i 0).val
  let v1 : BitVec 32 := Scalar.muli c4_i32 arg0
  let v2 : BitVec 32 := Scalar.addi v1 c0_i32
  let v3 : Index := Scalar.indexCast v2
  ![v3.toNat]
def k0_off2 (i : grid0.Coords) (c0_i32_21 : BitVec 32) : Fin 3 → Nat :=
  let c4_i32_20 : BitVec 32 := 4#32
  let arg0 : BitVec 32 := BitVec.ofNat 32 (i 0).val
  let v44 : BitVec 32 := Scalar.muli c4_i32_20 arg0
  let v45 : BitVec 32 := Scalar.addi v44 c0_i32_21
  let v46 : Index := Scalar.indexCast v45
  let c0_22 : Index := 0#32
  let c0_23 : Index := 0#32
  ![v46.toNat, 0, 0]
def k0_cond1 (i : grid0.Coords) : BitVec 1 :=
  let arg0 : BitVec 32 := BitVec.ofNat 32 (i 0).val
  let c15_i32 : BitVec 32 := 15#32
  let v197 : BitVec 1 := Scalar.cmpi .eq arg0 c15_i32
  let v198 : BitVec 32 := Scalar.extui v197
  let c0_i32_99 : BitVec 32 := 0#32
  let v199 : BitVec 1 := Scalar.cmpi .ne v198 c0_i32_99
  v199

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x768x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x1x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S64x768x24x24 : Shape := ⟨4, ![64, 768, 24, 24]⟩
abbrev S64 : Shape := ⟨1, ![64]⟩
abbrev S4x768 : Shape := ⟨2, ![4, 768]⟩
abbrev S4 : Shape := ⟨1, ![4]⟩
abbrev S_ : Shape := ⟨0, ![]⟩
abbrev S64x768 : Shape := ⟨2, ![64, 768]⟩
abbrev S768x4 : Shape := ⟨2, ![768, 4]⟩
abbrev S64x4 : Shape := ⟨2, ![64, 4]⟩
abbrev S1x4 : Shape := ⟨2, ![1, 4]⟩
abbrev S64x1 : Shape := ⟨2, ![64, 1]⟩
abbrev S64x768x1x1 : Shape := ⟨4, ![64, 768, 1, 1]⟩
abbrev S64x24x24 : Shape := ⟨3, ![64, 24, 24]⟩
abbrev S64x1x24x24 : Shape := ⟨4, ![64, 1, 24, 24]⟩
abbrev S64x253 : Shape := ⟨2, ![64, 253]⟩
abbrev S64x253x1 : Shape := ⟨3, ![64, 253, 1]⟩
abbrev S64x253x2 : Shape := ⟨3, ![64, 253, 2]⟩

abbrev nBuf : Space → Nat
  | .hbm => 70
  | .vmem => 0
  | .smem => 0
  | _ => 0

abbrev bufTy : (tb : Table) → Fin (tcTables nBuf tb) → BufTy
  | .hbm, ⟨0, _⟩ => ⟨S64x768x24x24, .f32⟩
  | .hbm, ⟨1, _⟩ => ⟨S64, .i32⟩
  | .hbm, ⟨2, _⟩ => ⟨S4x768, .f32⟩
  | .hbm, ⟨3, _⟩ => ⟨S4, .f32⟩
  | .hbm, ⟨4, _⟩ => ⟨S_, .f32⟩
  | .hbm, ⟨5, _⟩ => ⟨S64x768, .f32⟩
  | .hbm, ⟨6, _⟩ => ⟨S_, .f32⟩
  | .hbm, ⟨7, _⟩ => ⟨S64x768, .f32⟩
  | .hbm, ⟨8, _⟩ => ⟨S64x768, .f32⟩
  | .hbm, ⟨9, _⟩ => ⟨S768x4, .f32⟩
  | .hbm, ⟨10, _⟩ => ⟨S64x4, .f32⟩
  | .hbm, ⟨11, _⟩ => ⟨S1x4, .f32⟩
  | .hbm, ⟨12, _⟩ => ⟨S64x4, .f32⟩
  | .hbm, ⟨13, _⟩ => ⟨S64x4, .f32⟩
  | .hbm, ⟨14, _⟩ => ⟨S_, .i32⟩
  | .hbm, ⟨15, _⟩ => ⟨S64, .i32⟩
  | .hbm, ⟨16, _⟩ => ⟨S64, .i1⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S64, .i32⟩
  | .hbm, ⟨21, _⟩ => ⟨S64x1, .i32⟩
  | .hbm, ⟨22, _⟩ => ⟨S64x768, .f32⟩
  | .hbm, ⟨23, _⟩ => ⟨S64x768x1x1, .f32⟩
  | .hbm, ⟨24, _⟩ => ⟨S64x768x24x24, .f32⟩
  | .hbm, ⟨25, _⟩ => ⟨S64x768x24x24, .f32⟩
  | .hbm, ⟨26, _⟩ => ⟨S_, .f32⟩
  | .hbm, ⟨27, _⟩ => ⟨S64x24x24, .f32⟩
  | .hbm, ⟨28, _⟩ => ⟨S64x1x24x24, .f32⟩
  | .hbm, ⟨29, _⟩ => ⟨S_, .f32⟩
  | .hbm, ⟨30, _⟩ => ⟨S64x24x24, .f32⟩
  | .hbm, ⟨31, _⟩ => ⟨S64x1x24x24, .f32⟩
  | .hbm, ⟨32, _⟩ => ⟨S64x768x24x24, .f32⟩
  | .hbm, ⟨33, _⟩ => ⟨S64x768x24x24, .f32⟩
  | .hbm, ⟨34, _⟩ => ⟨S64x1x24x24, .f32⟩
  | .hbm, ⟨35, _⟩ => ⟨S64x768x24x24, .f32⟩
  | .hbm, ⟨36, _⟩ => ⟨S64x768x24x24, .f32⟩
  | .hbm, ⟨37, _⟩ => ⟨S_, .f32⟩
  | .hbm, ⟨38, _⟩ => ⟨S64x768, .f32⟩
  | .hbm, ⟨39, _⟩ => ⟨S_, .f32⟩
  | .hbm, ⟨40, _⟩ => ⟨S64x768, .f32⟩
  | .hbm, ⟨41, _⟩ => ⟨S64x768, .f32⟩
  | .hbm, ⟨42, _⟩ => ⟨S64x253, .f32⟩
  | .hbm, ⟨43, _⟩ => ⟨S64x253, .i32⟩
  | .hbm, ⟨44, _⟩ => ⟨S_, .f32⟩
  | .hbm, ⟨45, _⟩ => ⟨S64x768, .f32⟩
  | .hbm, ⟨46, _⟩ => ⟨S64, .i32⟩
  | .hbm, ⟨47, _⟩ => ⟨S64x1, .i32⟩
  | .hbm, ⟨48, _⟩ => ⟨S_, .i32⟩
  | .hbm, ⟨49, _⟩ => ⟨S64x1, .i32⟩
  | .hbm, ⟨50, _⟩ => ⟨S64x1, .i1⟩
  | .hbm, ⟨51, _⟩ => ⟨S_, .i32⟩
  | .hbm, ⟨52, _⟩ => ⟨S64x1, .i32⟩
  | .hbm, ⟨53, _⟩ => ⟨S64x1, .i32⟩
  | .hbm, ⟨54, _⟩ => ⟨S64x1, .i32⟩
  | .hbm, ⟨55, _⟩ => ⟨S_, .i32⟩
  | .hbm, ⟨56, _⟩ => ⟨S64x253, .i32⟩
  | .hbm, ⟨57, _⟩ => ⟨S64x253, .i1⟩
  | .hbm, ⟨58, _⟩ => ⟨S_, .i32⟩
  | .hbm, ⟨59, _⟩ => ⟨S64x253, .i32⟩
  | .hbm, ⟨60, _⟩ => ⟨S64x253, .i32⟩
  | .hbm, ⟨61, _⟩ => ⟨S64x253, .i32⟩
  | .hbm, ⟨62, _⟩ => ⟨S64x253, .i32⟩
  | .hbm, ⟨63, _⟩ => ⟨S64x253x1, .i32⟩
  | .hbm, ⟨64, _⟩ => ⟨S64x253x1, .i32⟩
  | .hbm, ⟨65, _⟩ => ⟨S64x253x2, .i32⟩
  | .hbm, ⟨66, _⟩ => ⟨S_, .f32⟩
  | .hbm, ⟨67, _⟩ => ⟨S64x253, .f32⟩
  | .hbm, ⟨68, _⟩ => ⟨S64x768, .f32⟩
  | .hbm, ⟨69, _⟩ => ⟨S64x768x1x1, .f32⟩
  | _, _ => ⟨S64x768x24x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_values : Ref sig .tc := ⟨.hbm, 42, rfl⟩
abbrev main_indices : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_9 : Ref sig .tc := ⟨.hbm, 55, rfl⟩
abbrev main_v38 : Ref sig .tc := ⟨.hbm, 56, rfl⟩
abbrev main_v39 : Ref sig .tc := ⟨.hbm, 57, rfl⟩
abbrev main_c_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]
-- ==== Proof.Points.lean ====
/- The schedule of the idealized kernel's pallas_call: when each window is fetched and written back, and the kernel
   body as the pipeline calls it at a grid point. -/
module

public import proofs.«01_k».proof.Proof.Gen.KernelIdeal
public import Idealize.ShloMosaic.Lib.Pipeline.Kit

@[expose] public section

noncomputable section

namespace Cert.KernelIdeal.Launch

open Idealize.ShloMosaic Idealize.ShloMosaic.TcCoe
open Idealize.SL Idealize.SL.Sem
open Cert.KernelIdeal.Gen

variable {F : FTy → Type} [FloatOps F]

/-! The labels are a prefetched table, and the statements hold at any contents `a` of it: no window's place reads it. -/

/-- Window 0 is fetched at every point. -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 is fetched at the first point only. -/
theorem fetch0_1 (a : (pcfg0 (F := F)).Adm) : ∀ t : Fin (cfg0 a).N, ((cfg0 a).win 1).fetch t = true ↔ t.val % 16 = 0 :=
  (fun t => Pipeline.Window.fetchOf_const cc0_transform_1 (fun _ _ => rfl) (n := 16) (by decide) t : ∀ t : Fin grid0.N, Pipeline.Window.fetchOf grid0 false cc0_transform_1 t = true ↔ t.val % 16 = 0)
/-- Window 2 is fetched at the first point only. -/
theorem fetch0_2 (a : (pcfg0 (F := F)).Adm) : ∀ t : Fin (cfg0 a).N, ((cfg0 a).win 2).fetch t = true ↔ t.val % 16 = 0 :=
  (fun t => Pipeline.Window.fetchOf_const cc0_transform_2 (fun _ _ => rfl) (n := 16) (by decide) t : ∀ t : Fin grid0.N, Pipeline.Window.fetchOf grid0 false cc0_transform_2 t = true ↔ t.val % 16 = 0)
/-- Window 3 is fetched at the first point only. -/
theorem fetch0_3 (a : (pcfg0 (F := F)).Adm) : ∀ t : Fin (cfg0 a).N, ((cfg0 a).win 3).fetch t = true ↔ t.val % 16 = 0 :=
  (fun t => Pipeline.Window.fetchOf_const cc0_transform_3 (fun _ _ => rfl) (n := 16) (by decide) t : ∀ t : Fin grid0.N, Pipeline.Window.fetchOf grid0 false cc0_transform_3 t = true ↔ t.val % 16 = 0)
/-- Window 4 is written back at every point. -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)
/-- Window 5 is written back at the last point only. -/
theorem flush0_5 (a : (pcfg0 (F := F)).Adm) : ∀ t : Fin (cfg0 a).N, ((cfg0 a).win 5).flush t = true ↔ t.val % 16 = 15 :=
  (fun t => Pipeline.Window.flushOf_const cc0_transform_5 (fun _ _ => rfl) (n := 16) (by decide) rfl t : ∀ t : Fin grid0.N, Pipeline.Window.flushOf grid0 true cc0_transform_5 t = true ↔ t.val % 16 = 15)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with. -/
abbrev bodyAt0 (a : (pcfg0 (F := F)).Adm) (t : Fin (cfg0 a).N) : Prog (TpuEff nD τ sig (Elt F) Λ₀ .tc) PUnit :=
  cc0__lambda_ (grid0.coords t) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _)

end Cert.KernelIdeal.Launch

end
-- ==== Proof.Setup.lean ====
/- What the idealized kernel's run is stated over: the host lines around the region, the prefetched label table, the
   windows' blocks, the condition of the last point, and the staging and scratch memrefs. -/
module

public import proofs.«01_k».proof.Proof.Gen.KernelIdeal.Launch
public import proofs.«01_k».proof.Proof.Gen.KernelIdeal.Skeleton
public import proofs.«01_k».proof.Proof.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- The program is the host lines before the region, the region, and the host lines after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the buffers beside it only, and not the label table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The label table's contents when the region is entered, read on the one device. -/
def tbl : pre0.Contents (Elt F) := fun j => V m (0 : Dev nD) (pre0.ref j)
/-- Every device holds those contents, as there is one. -/
theorem V_pre (c : Dev nD) (j : Fin 1) : V m c (pre0.ref j) = tbl m j := by
  obtain rfl : c = 0 := Subsingleton.elim _ _; rfl
/-- The side condition on the label table's contents. No window's place depends on the labels, so it always holds. -/
abbrev Ok : Prop := ok0 (F := F) (tbl m)
/-- The label table's contents with their side condition, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S64 .i32 := Memref.whole main_arg1
abbrev htbM0_0 : tbM0_0.IsWhole := Memref.isWhole_whole _

/-- The label table's buffer on core `c`: the type of its contents, and half of its share, at contents `f`. The body only
    reads it. The pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- What the region lends the body of the tables is half of the label table. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, if the body leaves it in
    place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, if the body leaves it in
    place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, if the body leaves it in
    place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, if the body leaves it in
    place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's branch, from the grid coordinates. -/
abbrev cond0_0 (i : grid0.Coords) : Prop := k0_cond1 i = 1#1
/-- It holds at the last point only. -/
theorem hcond0_0 : ∀ t : Fin grid0.N, cond0_0 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_0, k0_cond1, e0]
    word_cmp
   : ∀ t : Fin grid0.N, cond0_0 (grid0.coords t) ↔ t.val % 16 = 15)

/-! ## No input window is ever idle -/

theorem liveAt0_0 (hO : Ok m) : ∀ t : Fin (cfgM m hO).N, (cfgM m hO).idle 0 (grid0.coords t) = false :=
  (fun _ => rfl : ∀ t : Fin grid0.N, idle0 0 (grid0.coords t) = false)
theorem liveAt0_1 (hO : Ok m) : ∀ t : Fin (cfgM m hO).N, (cfgM m hO).idle 1 (grid0.coords t) = false :=
  (fun _ => rfl : ∀ t : Fin grid0.N, idle0 1 (grid0.coords t) = false)
theorem liveAt0_2 (hO : Ok m) : ∀ t : Fin (cfgM m hO).N, (cfgM m hO).idle 2 (grid0.coords t) = false :=
  (fun _ => rfl : ∀ t : Fin grid0.N, idle0 2 (grid0.coords t) = false)
theorem liveAt0_3 (hO : Ok m) : ∀ t : Fin (cfgM m hO).N, (cfgM m hO).idle 3 (grid0.coords t) = false :=
  (fun _ => rfl : ∀ t : Fin grid0.N, idle0 3 (grid0.coords t) = false)
/-! ## The memrefs that the body is called with -/

/-- Each window's current staging memref at point `t`, and that it is a whole buffer. -/
abbrev ms0_0 (hO : Ok m) (t : Fin (cfgM m hO).N) : Memref sig .tc .vmem S4x768x576 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S4x768 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S768x4 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x4 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S4x1x4 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S64x768 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch array of scores, a whole buffer of the kernel's own. -/
abbrev scM0_0 : Memref sig .tc .vmem S64x1x768 .f32 := Memref.whole cc0_scratch0

/-- What the region lends the body beside the windows: the scratch array at some contents, and the random generator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Launch

end
-- ==== Proof.Fns.lean ====
/- What one batch row contributes to the two results, as the kernel computes it: a row of logits from a [768, 576] plane of
   `x`, the weights and the bias, and a row of channel scores from the plane, its label and the transposed weights. -/
module

public import proofs.«01_k».proof.Proof.Gen.KernelIdeal.Skeleton
public import proofs.«01_k».proof.Proof.Setup
public import Idealize.ShloMosaic.Lib.ValueIdx
public import Idealize.ShloMosaic.Lib.WritesUnit
public import Idealize.ShloMosaic.Lib.VecWindow
public import Idealize.ShloMosaic.Lib.WholeRead

@[expose] public section

noncomputable section

namespace Cert.KernelIdeal.Launch

open Idealize.ShloMosaic Idealize.ShloMosaic.TcCoe Idealize.ShloMosaic.ValueIdx
open Cert.KernelIdeal.Gen

variable {F : FTy → Type} [FloatOps F]

/-- The logits of one batch row. -/
def yrow (xb : Vec F S1x768x576 .f32) (w : Vec F S4x768 .f32) (b : Vec F S1x4 .f32) : FVec F S1x1x4 .f32 := k0_pay27 xb w b

/-- The channel scores of one batch row. -/
def crow (lbl : Elt F .i32) (xb : Vec F S1x768x576 .f32) (wt : Vec F S768x4 .f32) : FVec F S1x1x768 .f32 :=
  k0_pay1 (k0_pay43 lbl xb wt)

/-- Plane `s` of a block of four. -/
def slab (x : Vec F S4x768x576 .f32) (s : Fin 4) : Vec F S1x768x576 .f32 := fun j => x (ix3 s (j 1 : Fin 768) (j 2 : Fin 576))

theorem yrow1 (xb : Vec F S1x768x576 .f32) (w : Vec F S4x768 .f32) (b : Vec F S1x4 .f32) :
    k0_pay34 (k0_pay25 (F := F)) xb w b = yrow xb w b := rfl
theorem yrow2 (xb : Vec F S1x768x576 .f32) (w : Vec F S4x768 .f32) (b : Vec F S1x4 .f32) :
    k0_pay39 (k0_pay38 (k0_pay25 (F := F)) xb w) b = yrow xb w b := rfl
theorem yrow3 (xb : Vec F S1x768x576 .f32) (w : Vec F S4x768 .f32) (b : Vec F S1x4 .f32) :
    k0_pay42 (k0_pay25 (F := F)) xb w b = yrow xb w b := rfl
theorem crow0 (l : Elt F .i32) (xb : Vec F S1x768x576 .f32) (wt : Vec F S768x4 .f32) :
    k0_pay32 (k0_pay28 l xb wt) (k0_pay30 l xb wt) (k0_pay31 l xb wt) = crow l xb wt := rfl
theorem crow1 (l : Elt F .i32) (xb : Vec F S1x768x576 .f32) (wt : Vec F S768x4 .f32) :
    k0_pay36 (k0_pay33 xb) (k0_pay35 l) wt = crow l xb wt := rfl
theorem crow2 (l : Elt F .i32) (xb : Vec F S1x768x576 .f32) (wt : Vec F S768x4 .f32) :
    k0_pay40 l (k0_pay37 xb) wt = crow l xb wt := rfl

/-- The block of logits a grid point stores: one row per batch row of its block. -/
def yblock (x : Vec F S4x768x576 .f32) (w : Vec F S4x768 .f32) (b : Vec F S1x4 .f32) : Vec F S4x1x4 .f32 :=
  fun j => yrow (slab x (j 0 : Fin 4)) w b (ix3 (0 : Fin 1) (0 : Fin 1) (j 2 : Fin 4))

/-- The score array after grid point `i`: rows `4 i … 4 i + 3` hold the scores of the block's batch rows, the rest is as
    before. -/
def csNext (i : grid0.Coords) (l : S64.Idx → Elt F .i32) (x : Vec F S4x768x576 .f32) (wt : Vec F S768x4 .f32)
    (X : Vec F S64x1x768 .f32) : Vec F S64x1x768 .f32 :=
  fun j => if (j 0).val / 4 = (i 0).val then
      crow (l (ix1 (j 0 : Fin 64))) (slab x ⟨(j 0).val % 4, Nat.mod_lt _ (by decide)⟩) wt (ix3 (0 : Fin 1) (0 : Fin 1) (j 2 : Fin 768))
    else X j

/-- The mask computed from the whole score array at the last grid point. -/
def maskOf (S : Vec F S64x1x768 .f32) : FVec F S64x768 .f32 :=
  let k := k0_pay3 S
  let o : FVec F S768x1 .f32 := k0_pay4 (F := F)
  let a9 := k0_pay9 k o (k0_pay5 S) (k0_pay6 S) (k0_pay7 S) (k0_pay8 (F := F))
  let a10 := k0_pay10 k o (k0_pay5 S) (k0_pay6 S) (k0_pay7 S) (k0_pay8 (F := F))
  let a11 := k0_pay11 k o (k0_pay5 S) (k0_pay6 S) (k0_pay7 S) (k0_pay8 (F := F))
  let a12 := k0_pay12 k o a9 a10 a11
  let a13 := k0_pay13 k o a12 524288#32
  let a14 := k0_pay14 k o a12 524288#32
  let a15 := k0_pay15 k o a12 524288#32
  let a16 := k0_pay16 k o a13 a14 a15
  let a17 := k0_pay17 k o a13 a14 a15
  let a18 := k0_pay18 k o a13 a14 a15
  let a19 := k0_pay19 k o a16 a17 a18
  let a20 := k0_pay20 k o a16 a17 a18
  let a21 := k0_pay21 k o a16 a17 a18
  k0_pay2 k o (k0_pay22 k o a19 a20 a21) (k0_pay23 k o a19 a20 a21) (k0_pay24 k o a19 a20 a21)

section Stores

variable {Val : EltTy → Type} {sig : RefSig} {κ : Kind} {sp : Space} {e : EltTy} {K n : ℕ}

/-- An array `[K, 1, n]` whose newest store is row `k`: that row reads the stored row, every other row the older stores. -/
theorem read_storedRow (v : View sig κ sp (⟨3, ![K, 1, n]⟩ : Shape) e) (f : v.ty.Contents Val) {off : Fin 3 → ℕ} (k : ℕ)
    (inb : ∀ a, off a + (![1, 1, n] : Fin 3 → ℕ) a ≤ (⟨3, ![K, 1, n]⟩ : Shape).size a) (hoff : off = ![k, 0, 0])
    (w : (⟨3, ![1, 1, n]⟩ : Shape).Idx → Val e) (L : List (View.Piece Val (⟨3, ![K, 1, n]⟩ : Shape) e))
    (y : (⟨3, ![K, 1, n]⟩ : Shape).Idx) :
    v.read Val (v.writes Val f ((⟨Rect.unit (s := (⟨3, ![K, 1, n]⟩ : Shape)) off ![1, 1, n] inb, w⟩ : View.Piece Val (⟨3, ![K, 1, n]⟩ : Shape) e) :: L)) y
      = if (y 0).val = k then w (ix3 (0 : Fin 1) (0 : Fin 1) (y 2 : Fin n)) else v.read Val (v.writes Val f L) y := by
  have h1 : (y 1).val < 1 := (y 1).isLt
  by_cases h : (y 0).val = k
  · rw [if_pos h]
    refine View.read_writes_cons_unit_of_mem v f inb w L y (ix3 (0 : Fin 1) (0 : Fin 1) (y 2 : Fin n)) hoff fun a => ?_
    fin_cases a
    · show (y 0).val = k + 0; omega
    · show (y 1).val = 0 + 0; omega
    · show (y 2).val = 0 + (y 2).val; omega
  · rw [if_neg h]
    refine View.read_writes_cons_unit_of_not_mem v f inb w L y hoff (0 : Fin 3) ?_
    show (y 0).val < k ∨ k + 1 ≤ (y 0).val
    omega

end Stores

/-- A load of plane `s` of the block of `x`. -/
theorem load_slab {m : Memref sig .tc .vmem S4x768x576 .f32} (h : m.IsWhole) (X : Vec F S4x768x576 .f32) (s : Fin 4)
    (inb : ∀ a, (![s.val, 0, 0] : Fin 3 → ℕ) a + S1x768x576.size a ≤ S4x768x576.size a) :
    View.readAt (Elt F) m.view (Rect.unit (s := S4x768x576) ![s.val, 0, 0] S1x768x576.size inb).toLoadRect (h.unread X) = slab X s := by
  funext j
  refine (h.readAt_unread X _ j).trans (congrArg X (funext fun a => Fin.ext ?_))
  have h0 : (j 0).val < 1 := (j 0).isLt
  fin_cases a
  · show s.val + 1 * (j 0).val = s.val; omega
  · show 0 + 1 * (j 1).val = (j 1).val; omega
  · show 0 + 1 * (j 2).val = (j 2).val; omega

/-- A load of a whole buffer. -/
theorem load_full {s : Shape} {e : EltTy} {m : Memref sig .tc .vmem s e} (h : m.IsWhole) (X : Vec F s e) {off : Fin s.rank → ℕ}
    (inb : ∀ a, off a + s.size a ≤ s.size a) :
    View.readAt (Elt F) m.view (Rect.unit (s := s) off s.size inb).toLoadRect (h.unread X) = X := by
  rw [View.readAt_full, h.read_unread]

/-- The label the kernel reads for row `r` of grid point `i`. -/
theorem load_label (c : Dev nD) (l : TbBuf0 (F := F) c tbM0_0) (i : grid0.Coords) (r : Fin 4)
    (inb : ∀ a, (k0_off1 i (BitVec.ofNat 32 r.val)) a + S1.size a ≤ S64.size a) (h1 : 0 < (Rect.unit (s := S64) (k0_off1 i (BitVec.ofNat 32 r.val)) S1.size inb).toLoadRect.shape.numel)
    (hr : 4 * (i 0).val + r.val < 64) :
    View.readAt (Elt F) tbM0_0.view (Rect.unit (s := S64) (k0_off1 i (BitVec.ofNat 32 r.val)) S1.size inb).toLoadRect l (Shape.Idx.first h1)
      = (show S64.Idx → Elt F .i32 from l) (ix1 (⟨4 * (i 0).val + r.val, hr⟩ : Fin 64)) := by
  show (show S64.Idx → Elt F .i32 from l) _ = _
  refine congrArg (show S64.Idx → Elt F .i32 from l) (funext fun a => Fin.ext ?_)
  have e := congrFun (k0_off1_eq i r) (0 : Fin 1)
  fin_cases a
  show (k0_off1 i (BitVec.ofNat 32 r.val)) 0 + 1 * _ = 4 * (i 0).val + r.val
  rw [e]
  show 4 * (i 0).val + r.val + 1 * 0 = _
  omega

/-- What the four stores of logits leave in the block. -/
theorem y_stored {m : Memref sig .tc .vmem S4x1x4 .f32} (f : BufTy.Contents (Elt F) m.view.ty)
    (x : Vec F S4x768x576 .f32) (w : Vec F S4x768 .f32) (b : Vec F S1x4 .f32) {w0 w1 w2 w3 : Vec F S1x1x4 .f32}
    (h0 : w0 = yrow (slab x 0) w b) (h1 : w1 = yrow (slab x 1) w b) (h2 : w2 = yrow (slab x 2) w b) (h3 : w3 = yrow (slab x 3) w b) :
    View.read (Elt F) m.view (m.view.writes (Elt F) f
      [⟨Rect.unit ![3, 0, 0] S1x1x4.size inb_S4x1x4_S1x1x4_3_0_0, w3⟩, ⟨Rect.unit ![2, 0, 0] S1x1x4.size inb_S4x1x4_S1x1x4_2_0_0, w2⟩,
       ⟨Rect.unit ![1, 0, 0] S1x1x4.size inb_S4x1x4_S1x1x4_1_0_0, w1⟩, ⟨Rect.unit ![0, 0, 0] S1x1x4.size inb_S4x1x4_S1x1x4_0_0_0, w0⟩])
      = yblock x w b := by
  subst h0 h1 h2 h3
  funext y
  have hy : (y 0).val < 4 := (y 0).isLt
  refine (read_storedRow m.view f 3 _ rfl _ _ y).trans ?_
  split_ifs with h
  · exact (congrArg (fun r : Fin 4 => yrow (slab x r) w b (ix3 (0 : Fin 1) (0 : Fin 1) (y 2 : Fin 4))) (show @Eq (Fin 4) (y 0) 3 from Fin.ext h)).symm
  refine (read_storedRow m.view f 2 _ rfl _ _ y).trans ?_
  split_ifs with h
  · exact (congrArg (fun r : Fin 4 => yrow (slab x r) w b (ix3 (0 : Fin 1) (0 : Fin 1) (y 2 : Fin 4))) (show @Eq (Fin 4) (y 0) 2 from Fin.ext h)).symm
  refine (read_storedRow m.view f 1 _ rfl _ _ y).trans ?_
  split_ifs with h
  · exact (congrArg (fun r : Fin 4 => yrow (slab x r) w b (ix3 (0 : Fin 1) (0 : Fin 1) (y 2 : Fin 4))) (show @Eq (Fin 4) (y 0) 1 from Fin.ext h)).symm
  refine (read_storedRow m.view f 0 _ rfl _ _ y).trans ?_
  split_ifs with h
  · exact (congrArg (fun r : Fin 4 => yrow (slab x r) w b (ix3 (0 : Fin 1) (0 : Fin 1) (y 2 : Fin 4))) (show @Eq (Fin 4) (y 0) 0 from Fin.ext h)).symm
  omega

theorem coord_lt (i : grid0.Coords) (r : Fin 4) : 4 * (i 0).val + r.val < 64 := by
  have h : (i 0).val < 16 := (i 0).isLt
  omega

/-- What the four stores of score rows leave in the score array. -/
theorem cs_stored {m : Memref sig .tc .vmem S64x1x768 .f32} (f : BufTy.Contents (Elt F) m.view.ty) (i : grid0.Coords)
    (l : S64.Idx → Elt F .i32) (x : Vec F S4x768x576 .f32) (wt : Vec F S768x4 .f32) {X : Vec F S64x1x768 .f32}
    (hX : View.read (Elt F) m.view f = X) {w0 w1 w2 w3 : Vec F S1x1x768 .f32}
    (h0 : w0 = crow (l (ix1 (⟨4 * (i 0).val + (0 : Fin 4).val, coord_lt i 0⟩ : Fin 64))) (slab x 0) wt)
    (h1 : w1 = crow (l (ix1 (⟨4 * (i 0).val + (1 : Fin 4).val, coord_lt i 1⟩ : Fin 64))) (slab x 1) wt)
    (h2 : w2 = crow (l (ix1 (⟨4 * (i 0).val + (2 : Fin 4).val, coord_lt i 2⟩ : Fin 64))) (slab x 2) wt)
    (h3 : w3 = crow (l (ix1 (⟨4 * (i 0).val + (3 : Fin 4).val, coord_lt i 3⟩ : Fin 64))) (slab x 3) wt)
    (b0 : ∀ a, (k0_off2 i 0#32) a + S1x1x768.size a ≤ S64x1x768.size a) (b1 : ∀ a, (k0_off2 i 1#32) a + S1x1x768.size a ≤ S64x1x768.size a)
    (b2 : ∀ a, (k0_off2 i 2#32) a + S1x1x768.size a ≤ S64x1x768.size a) (b3 : ∀ a, (k0_off2 i 3#32) a + S1x1x768.size a ≤ S64x1x768.size a) :
    View.read (Elt F) m.view (m.view.writes (Elt F) f
      [⟨Rect.unit (k0_off2 i 3#32) S1x1x768.size b3, w3⟩, ⟨Rect.unit (k0_off2 i 2#32) S1x1x768.size b2, w2⟩,
       ⟨Rect.unit (k0_off2 i 1#32) S1x1x768.size b1, w1⟩, ⟨Rect.unit (k0_off2 i 0#32) S1x1x768.size b0, w0⟩])
      = csNext i l x wt X := by
  subst h0 h1 h2 h3 hX
  funext y
  have hy : (y 0).val < 64 := (y 0).isLt
  have hi : (i 0).val < 16 := (i 0).isLt
  have key : ∀ r : Fin 4, (y 0).val = 4 * (i 0).val + r.val →
      crow (l (ix1 (⟨4 * (i 0).val + r.val, coord_lt i r⟩ : Fin 64))) (slab x r) wt (ix3 (0 : Fin 1) (0 : Fin 1) (y 2 : Fin 768))
        = csNext i l x wt (View.read (Elt F) m.view f) y := by
    intro r hr
    have hr4 := r.isLt
    unfold csNext
    rw [if_pos (by omega)]
    have e1 : @Eq (Fin 64) ⟨4 * (i 0).val + r.val, coord_lt i r⟩ (y 0) := Fin.ext hr.symm
    have e2 : @Eq (Fin 4) r ⟨(y 0).val % 4, Nat.mod_lt _ (by decide)⟩ := Fin.ext (by show r.val = (y 0).val % 4; omega)
    exact congrArg₂ (fun (q : Fin 64) (s : Fin 4) => crow (l (ix1 q)) (slab x s) wt (ix3 (0 : Fin 1) (0 : Fin 1) (y 2 : Fin 768))) e1 e2
  refine (read_storedRow m.view f _ _ (k0_off2_eq i 3) _ _ y).trans ?_
  split_ifs with h
  · exact key 3 h
  refine (read_storedRow m.view f _ _ (k0_off2_eq i 2) _ _ y).trans ?_
  split_ifs with h'
  · exact key 2 h'
  refine (read_storedRow m.view f _ _ (k0_off2_eq i 1) _ _ y).trans ?_
  split_ifs with h''
  · exact key 1 h''
  refine (read_storedRow m.view f _ _ (k0_off2_eq i 0) _ _ y).trans ?_
  split_ifs with h4
  · exact key 0 h4
  unfold csNext
  rw [if_neg, View.writes_nil]
  have e3 : ((3 : Fin 4)).val = 3 := rfl
  have e2 : ((2 : Fin 4)).val = 2 := rfl
  have e1 : ((1 : Fin 4)).val = 1 := rfl
  have e0 : ((0 : Fin 4)).val = 0 := rfl
  omega

end Cert.KernelIdeal.Launch

end
-- ==== Proof.BodyA.lean ====
/- The body at a grid point before the last: it scores four batch rows and stores their logits. -/
module

public import proofs.«01_k».proof.Proof.Setup
public import proofs.«01_k».proof.Proof.Fns

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body before the last point, on whole buffers: the inputs and the label table end as they were, the logits' block holds
    `yblock` of the inputs, the mask's buffer is untouched, and the scratch array has the point's four rows of scores. -/
theorem kernelRun0_A (c : Dev nD) (i : grid0.Coords) (arg2 : Memref sig .tc .vmem S4x768x576 .f32) (harg2 : arg2.IsWhole) (arg3 : Memref sig .tc .vmem S4x768 .f32) (harg3 : arg3.IsWhole) (arg4 : Memref sig .tc .vmem S768x4 .f32) (harg4 : arg4.IsWhole) (arg5 : Memref sig .tc .vmem S1x4 .f32) (harg5 : arg5.IsWhole) (arg6 : Memref sig .tc .vmem S4x1x4 .f32) (harg6 : arg6.IsWhole) (arg7 : Memref sig .tc .vmem S64x768 .f32) (harg7 : arg7.IsWhole) (arg8 : Memref sig .tc .vmem S64x1x768 .f32) (harg8 : arg8.IsWhole) (hc0 : ¬cond0_0 i)
    (X7 : Vec F S64x768 .f32) (X8 : Vec F S64x1x768 .f32) (x0 : Vec F S4x768x576 .f32) (x1 : Vec F S4x768 .f32) (x2 : Vec F S768x4 .f32) (x3 : Vec F S1x4 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare X7 ∗ owns (c : Thread nD τ) arg8 fullShare X8 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (yblock x0 x1 x3) ∗ owns (c : Thread nD τ) arg7 fullShare X7 ∗ owns (c : Thread nD τ) arg8 fullShare (csNext i xt0 x0 x2 X8) ∗ tbPt0 c tbM0_0 xt0) -∗ K ⟨⟩))
          ⊢ wp frame (wpE (defs₀ (F := F)) Variants.none c none) E (cc0__lambda_ i tbM0_0 htbM0_0 arg2 harg2 arg3 harg3 arg4 harg4 arg5 harg5 arg6 harg6 arg7 harg7 arg8 harg8) K := by
    intro E K
    simp only [cc0__lambda__eq_skeleton]; unfold cc0__lambda__skel
    simp only [k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, HT0, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    have hX0 : View.readAt (Elt F) arg2.view (Rect.unit (s := S4x768x576) ![0, 0, 0] S1x768x576.size inb_S4x768x576_S1x768x576_0_0_0).toLoadRect (harg2.unread x0) = slab x0 0 := load_slab harg2 x0 0 _
    have hX1 : View.readAt (Elt F) arg2.view (Rect.unit (s := S4x768x576) ![1, 0, 0] S1x768x576.size inb_S4x768x576_S1x768x576_1_0_0).toLoadRect (harg2.unread x0) = slab x0 1 := load_slab harg2 x0 1 _
    have hX2 : View.readAt (Elt F) arg2.view (Rect.unit (s := S4x768x576) ![2, 0, 0] S1x768x576.size inb_S4x768x576_S1x768x576_2_0_0).toLoadRect (harg2.unread x0) = slab x0 2 := load_slab harg2 x0 2 _
    have hX3 : View.readAt (Elt F) arg2.view (Rect.unit (s := S4x768x576) ![3, 0, 0] S1x768x576.size inb_S4x768x576_S1x768x576_3_0_0).toLoadRect (harg2.unread x0) = slab x0 3 := load_slab harg2 x0 3 _
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      unfold kernelRun0_A.sl.r_10
      have hW := load_full harg3 x1 inb_S4x768_S4x768_0_0
      have hB := load_full harg5 x3 inb_S1x4_S1x4_0_0
      refine y_stored f4 x0 x1 x3 ?_ ?_ ?_ ?_
      · rw [hW, hB, hX0]; rfl
      · rw [hW, hB, hX1]; rfl
      · rw [hW, hB, hX2]; rfl
      · rw [hW, hB, hX3]; rfl
    isplitl [H5]
    · iexists _; isplitr; swap; · iexact H5
      ipureintro; exact hf5
    isplitl [HS0]
    · iexists _; isplitr; swap; · iexact HS0
      ipureintro
      unfold kernelRun0_A.sl.r_1 kernelRun0_A.sl.r_2 kernelRun0_A.sl.r_3 kernelRun0_A.sl.r_5 kernelRun0_A.sl.r_6 kernelRun0_A.sl.r_7 kernelRun0_A.sl.r_8 kernelRun0_A.sl.r_9 kernelRun0_A.sl.r_12
      unfold kernelRun0_A.sl.r_4 kernelRun0_A.sl.r kernelRun0_A.sl.r_11
      have hT := load_full harg4 x2 inb_S768x4_S768x4_0_0
      refine cs_stored fs0 i xt0 x0 x2 hfs0 ?_ ?_ ?_ ?_ _ _ _ _
      · rw [hT, hX0]; exact congrArg (fun q => crow q _ _) (load_label c xt0 i 0 _ _ _)
      · rw [hT, hX1]; exact congrArg (fun q => crow q _ _) (load_label c xt0 i 1 _ _ _)
      · rw [hT, hX2]; exact congrArg (fun q => crow q _ _) (load_label c xt0 i 2 _ _ _)
      · rw [hT, hX3]; exact congrArg (fun q => crow q _ _) (load_label c xt0 i 3 _ _ _)
    iexact HT0

end Cert.KernelIdeal.Launch

end
-- ==== Proof.BodyB.lean ====
/- The body at the last grid point: it scores the last four batch rows, then computes the mask from all the scores. -/
module

public import proofs.«01_k».proof.Proof.Setup
public import proofs.«01_k».proof.Proof.Fns
public import proofs.«01_k».proof.Proof.BodyA

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the last point, on whole buffers: as before it, and the mask's buffer ends holding `maskOf` of the score array
    that the point completes. -/
theorem kernelRun0_B (c : Dev nD) (i : grid0.Coords) (arg2 : Memref sig .tc .vmem S4x768x576 .f32) (harg2 : arg2.IsWhole) (arg3 : Memref sig .tc .vmem S4x768 .f32) (harg3 : arg3.IsWhole) (arg4 : Memref sig .tc .vmem S768x4 .f32) (harg4 : arg4.IsWhole) (arg5 : Memref sig .tc .vmem S1x4 .f32) (harg5 : arg5.IsWhole) (arg6 : Memref sig .tc .vmem S4x1x4 .f32) (harg6 : arg6.IsWhole) (arg7 : Memref sig .tc .vmem S64x768 .f32) (harg7 : arg7.IsWhole) (arg8 : Memref sig .tc .vmem S64x1x768 .f32) (harg8 : arg8.IsWhole) (hc0 : cond0_0 i)
    (X8 : Vec F S64x1x768 .f32) (x0 : Vec F S4x768x576 .f32) (x1 : Vec F S4x768 .f32) (x2 : Vec F S768x4 .f32) (x3 : Vec F S1x4 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare X8 ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (yblock x0 x1 x3) ∗ owns (c : Thread nD τ) arg7 fullShare (maskOf (csNext i xt0 x0 x2 X8)) ∗ owns (c : Thread nD τ) arg8 fullShare (csNext i xt0 x0 x2 X8) ∗ tbPt0 c tbM0_0 xt0) -∗ K ⟨⟩))
          ⊢ wp frame (wpE (defs₀ (F := F)) Variants.none c none) E (cc0__lambda_ i tbM0_0 htbM0_0 arg2 harg2 arg3 harg3 arg4 harg4 arg5 harg5 arg6 harg6 arg7 harg7 arg8 harg8) K := by
    intro E K
    simp only [cc0__lambda__eq_skeleton]; unfold cc0__lambda__skel
    simp only [k0_part8_eq_skeleton, k0_part9_eq_skeleton, k0_part10_eq_skeleton, k0_part11_eq_skeleton, k0_part12_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, HT0, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    have hX0 : View.readAt (Elt F) arg2.view (Rect.unit (s := S4x768x576) ![0, 0, 0] S1x768x576.size inb_S4x768x576_S1x768x576_0_0_0).toLoadRect (harg2.unread x0) = slab x0 0 := load_slab harg2 x0 0 _
    have hX1 : View.readAt (Elt F) arg2.view (Rect.unit (s := S4x768x576) ![1, 0, 0] S1x768x576.size inb_S4x768x576_S1x768x576_1_0_0).toLoadRect (harg2.unread x0) = slab x0 1 := load_slab harg2 x0 1 _
    have hX2 : View.readAt (Elt F) arg2.view (Rect.unit (s := S4x768x576) ![2, 0, 0] S1x768x576.size inb_S4x768x576_S1x768x576_2_0_0).toLoadRect (harg2.unread x0) = slab x0 2 := load_slab harg2 x0 2 _
    have hX3 : View.readAt (Elt F) arg2.view (Rect.unit (s := S4x768x576) ![3, 0, 0] S1x768x576.size inb_S4x768x576_S1x768x576_3_0_0).toLoadRect (harg2.unread x0) = slab x0 3 := load_slab harg2 x0 3 _
    have hcs : View.read (Elt F) arg8.view (arg8.view.writes (Elt F) fs0 (kernelRun0_B.sl.HS0_4 c i arg2 harg2 arg4 harg4 x0 x2 xt0)) = csNext i xt0 x0 x2 X8 := by
      unfold kernelRun0_B.sl.HS0_4
      unfold kernelRun0_B.sl.r_1 kernelRun0_B.sl.r_2 kernelRun0_B.sl.r_3 kernelRun0_B.sl.r_5 kernelRun0_B.sl.r_6 kernelRun0_B.sl.r_7 kernelRun0_B.sl.r_8 kernelRun0_B.sl.r_9 kernelRun0_B.sl.r_12
      unfold kernelRun0_B.sl.r_4 kernelRun0_B.sl.r kernelRun0_B.sl.r_11
      have hT := load_full harg4 x2 inb_S768x4_S768x4_0_0
      refine cs_stored fs0 i xt0 x0 x2 hfs0 ?_ ?_ ?_ ?_ _ _ _ _
      · rw [hT, hX0]; exact congrArg (fun q => crow q _ _) (load_label c xt0 i 0 _ _ _)
      · rw [hT, hX1]; exact congrArg (fun q => crow q _ _) (load_label c xt0 i 1 _ _ _)
      · rw [hT, hX2]; exact congrArg (fun q => crow q _ _) (load_label c xt0 i 2 _ _ _)
      · rw [hT, hX3]; exact congrArg (fun q => crow q _ _) (load_label c xt0 i 3 _ _ _)
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      unfold kernelRun0_B.sl.r_10
      have hW := load_full harg3 x1 inb_S4x768_S4x768_0_0
      have hB := load_full harg5 x3 inb_S1x4_S1x4_0_0
      refine y_stored f4 x0 x1 x3 ?_ ?_ ?_ ?_
      · rw [hW, hB, hX0]; rfl
      · rw [hW, hB, hX1]; rfl
      · rw [hW, hB, hX2]; rfl
      · rw [hW, hB, hX3]; rfl
    isplitl [H5]
    · iexists _; isplitr; swap; · iexact H5
      ipureintro
      rw [View.read_writes_full]
      exact congrArg maskOf ((View.readAt_full _ _ _).trans hcs)
    isplitl [HS0]
    · iexists _; isplitr; swap; · iexact HS0
      ipureintro
      exact hcs
    iexact HT0

end Cert.KernelIdeal.Launch

end
-- ==== Proof.Frame.lean ====
/- The run of the idealized kernel, at any reading of the floats: what each grid point leaves, and what the arrays end at. -/
module

public import proofs.«01_k».proof.Proof.BodyB
public import Idealize.ShloMosaic.Lib.Claim
public import Idealize.ShloMosaic.Lib.Pipeline.FrameSuffix

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2 ix3)
open Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the run leaves, point by point -/

/-- The labels, as the body reads them. -/
def lbls : S64.Idx → Elt F .i32 := tbl m 0

/-- The grid point that scores batch row `b`. -/
def ptOf (hO : Ok m) (b : Fin 64) : Fin (cfgM m hO).N := ⟨b.val / 4, lt_of_lt_of_eq (show b.val / 4 < 16 by have := b.isLt; omega) (show (cfgM m hO).N = 16 from N_0).symm⟩

/-- The score array after every grid point: row `b` is scored by its own point, from the blocks staged there. -/
def scores (hO : Ok m) (c : Dev nD) : Vec F S64x1x768 .f32 := fun j =>
  crow (lbls m (ix1 (j 0 : Fin 64))) (slab (iblk m hO c 0 (ptOf m hO (j 0))) ⟨(j 0).val % 4, Nat.mod_lt _ (by decide)⟩)
    (iblk m hO c 2 (ptOf m hO (j 0))) (ix3 (0 : Fin 1) (0 : Fin 1) (j 2 : Fin 768))

/-- The score array agrees with `scores` on the rows of the points before `n`. -/
def Scored (hO : Ok m) (c : Dev nD) (n : ℕ) (X : Vec F S64x1x768 .f32) : Prop := ∀ j : S64x1x768.Idx, (j 0).val < 4 * n → X j = scores m hO c j

theorem coords_val (t : Fin grid0.N) : (grid0.coords t 0).val = t.val := by
  have ht : t.val < 16 := Nat.lt_of_lt_of_eq t.isLt N_0
  have e0 : (grid0.coords t 0).val = t.val / 1 % 16 := Pipeline.Grid.coords_val t 0 (by decide) rfl
  omega

/-- One grid point extends the scored rows by its four. -/
theorem Scored.next {hO : Ok m} {c : Dev nD} {t : Fin (cfgM m hO).N} {X : Vec F S64x1x768 .f32} (h : Scored m hO c t.val X) :
    Scored m hO c (t.val + 1) (csNext (grid0.coords t) (lbls m) (iblk m hO c 0 t) (iblk m hO c 2 t) X) := by
  intro j hj
  have e : (grid0.coords t 0).val = t.val := coords_val t
  unfold csNext
  split_ifs with hi
  · have ep : ptOf m hO (j 0) = t := Fin.ext (show (j 0).val / 4 = t.val by omega)
    unfold scores
    rw [ep]
  · exact h j (by omega)

/-- After the last point the whole array is scored. -/
theorem Scored.all {hO : Ok m} {c : Dev nD} {X : Vec F S64x1x768 .f32} (h : Scored m hO c 16 X) : X = scores m hO c := by
  funext j
  have : (j 0).val < 64 := (j 0).isLt
  exact h j (by omega)

/-! ## The pipeline's proof data -/

/-- The proof data on core `c`: each input's buffer holds its block after the body; the logits' block is `yblock` of the
    staged blocks; the mask's buffer (written at the last point) is the mask of the whole score array; the invariant before
    point `n` holds the score array at contents scored up to there, the generator register and the label table. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (yblock (iblk m hO c 0 t) (iblk m hO c 1 t) (iblk m hO c 3 t) : Vec F S4x1x4 .f32)
    | ⟨5, _⟩ => (maskOf (scores m hO c) : Vec F S64x768 .f32)
  Φ n := iprop((iprop(∃ X, ⌜Scored m hO c n.val X⌝ ∗ owns (c : Thread nD τ) scM0_0 fullShare X) ∗ (∃ r, prngReg c r)) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) :
    (dats m hO 0 c).after 4 t = yblock (iblk m hO c 0 t) (iblk m hO c 1 t) (iblk m hO c 3 t) := by dsimp only [dats]; try rfl
theorem after0_5 (hO : Ok m) (c : Dev nD) (t : Fin (cfgM m hO).N) :
    (dats m hO 0 c).after 5 t = maskOf (scores m hO c) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 1600000 in
/-- The body at any point: at the last one it scores its rows and writes the mask, at the others it scores its rows and
    leaves the mask's buffer as it was. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.castSucc = iprop((iprop(∃ X, ⌜Scored m hO c t.val X⌝ ∗ owns (c : Thread nD τ) scM0_0 fullShare X) ∗ (∃ r, prngReg c r)) ∗ Pipeline.ΦT pre0 (tbl m) c) from rfl,
    show (dats m hO 0 c).Φ t.succ = iprop((iprop(∃ X, ⌜Scored m hO c (t.val + 1) X⌝ ∗ owns (c : Thread nD τ) scM0_0 fullShare X) ∗ (∃ r, prngReg c r)) ∗ Pipeline.ΦT pre0 (tbl m) c) from rfl,
    PhiT0_eq]
  have hN : t.val < 16 := lt_of_lt_of_eq t.isLt (show (cfgM m hO).N = 16 from N_0)
  rw [show (dats m hO 0 c).leavesExact 0 t = owns (c : Thread nD τ) (ms0_0 m hO t) fullShare ((dats m hO 0 c).after 0 t) from by
      unfold Dat.leavesExact; rw [liveAt0_0 m hO t]; try rfl, after0_0,
    show (dats m hO 0 c).leavesExact 1 t = owns (c : Thread nD τ) (ms0_1 m hO t) fullShare ((dats m hO 0 c).after 1 t) from by
      unfold Dat.leavesExact; rw [liveAt0_1 m hO t]; try rfl, after0_1,
    show (dats m hO 0 c).leavesExact 2 t = owns (c : Thread nD τ) (ms0_2 m hO t) fullShare ((dats m hO 0 c).after 2 t) from by
      unfold Dat.leavesExact; rw [liveAt0_2 m hO t]; try rfl, after0_2,
    show (dats m hO 0 c).leavesExact 3 t = owns (c : Thread nD τ) (ms0_3 m hO t) fullShare ((dats m hO 0 c).after 3 t) from by
      unfold Dat.leavesExact; rw [liveAt0_3 m hO t]; try rfl, after0_3,
    show (dats m hO 0 c).leavesExact 4 t = owns (c : Thread nD τ) (ms0_4 m hO t) fullShare ((dats m hO 0 c).after 4 t) from by
      unfold Dat.leavesExact; rw [show (cfgM m hO).idle 4 (grid0.coords t) = false from rfl]; try rfl, after0_4]
  by_cases h0 : t.val % 16 = 15
  · have hc : cond0_0 (grid0.coords t) := (hcond0_0 t).mpr h0
    have hidle : (cfgM m hO).idle 5 (grid0.coords t) = false := by
      show (!(k0_cond1 (grid0.coords t) == 1#1)) = false
      rw [show k0_cond1 (grid0.coords t) = 1#1 from hc]; rfl
    rw [show (dats m hO 0 c).leavesExact 5 t = owns (c : Thread nD τ) (ms0_5 m hO t) fullShare ((dats m hO 0 c).after 5 t) from by
      unfold Dat.leavesExact; rw [hidle]; try rfl, after0_5]
    iintro ⟨⟨⟨⟨%X, %hX, HS0⟩, Hg⟩, HT0⟩, Ho, ⟨%d0, H0⟩, ⟨%d1, H1⟩, ⟨%d2, H2⟩, ⟨%d3, H3⟩, ⟨%d4, H4⟩, ⟨%d5, H5⟩⟩
    have hnext := Scored.next m (t := t) hX
    have hall : csNext (grid0.coords t) (tbl m 0) (iblk m hO c 0 t) (iblk m hO c 2 t) X = scores m hO c :=
      Scored.all m (by rw [show 16 = t.val + 1 by omega]; exact hnext)
    iapply ((kernelRun0_B c (grid0.coords t) _ _ _ _ _ _ _ _ _ _ _ _ _ _ hc X (iblk m hO c 0 t) (iblk m hO c 1 t) (iblk m hO c 2 t) (iblk m hO c 3 t) (tbl m 0)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HT0]; · iexact HT0
    iintro ⟨H0, H1, H2, H3, H4, H5, HS0, HT0⟩
    isplitl [HS0 Hg HT0]
    · isplitl [HS0 Hg]
      · isplitl [HS0]
        · iexists _; isplitr; swap; · iexact HS0
          ipureintro; exact hnext
        iexact Hg
      iexact HT0
    isplitl [Ho]; · iexact Ho
    isplitl [H0]; · iexact H0
    isplitl [H1]; · iexact H1
    isplitl [H2]; · iexact H2
    isplitl [H3]; · iexact H3
    isplitl [H4]; · iexact H4
    rw [hall]
    iexact H5
  · have hc : ¬cond0_0 (grid0.coords t) := fun h => h0 ((hcond0_0 t).mp h)
    have hidle : (cfgM m hO).idle 5 (grid0.coords t) = true := by
      show (!(k0_cond1 (grid0.coords t) == 1#1)) = true
      rw [show (k0_cond1 (grid0.coords t) == 1#1) = false from beq_false_of_ne hc]; rfl
    have hflush : ((cfgM m hO).win 5).flush t = false := by
      rw [← Bool.not_eq_true]; exact fun h => h0 ((flush0_5 (adm m hO) t).mp h)
    rw [(dats m hO 0 c).leavesExact_idle 5 t hidle hflush]
    iintro ⟨⟨⟨⟨%X, %hX, HS0⟩, Hg⟩, HT0⟩, Ho, ⟨%d0, H0⟩, ⟨%d1, H1⟩, ⟨%d2, H2⟩, ⟨%d3, H3⟩, ⟨%d4, H4⟩, ⟨%d5, H5⟩⟩
    have hnext := Scored.next m (t := t) hX
    iapply ((kernelRun0_A c (grid0.coords t) _ _ _ _ _ _ _ _ _ _ _ _ _ _ hc ((dats m hO 0 c).before 5 t d5) X (iblk m hO c 0 t) (iblk m hO c 1 t) (iblk m hO c 2 t) (iblk m hO c 3 t) (tbl m 0)) Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    isplitl [HT0]; · iexact HT0
    iintro ⟨H0, H1, H2, H3, H4, H5, HS0, HT0⟩
    isplitl [HS0 Hg HT0]
    · isplitl [HS0 Hg]
      · isplitl [HS0]
        · iexists _; isplitr; swap; · iexact HS0
          ipureintro; exact hnext
        iexact Hg
      iexact HT0
    isplitl [Ho]; · iexact Ho
    isplitl [H0]; · iexact H0
    isplitl [H1]; · iexact H1
    isplitl [H2]; · iexact H2
    isplitl [H3]; · iexact H3
    isplitl [H4]; · iexact H4
    iexists d5; iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

set_option backward.isDefEq.respectTransparency.types false in
set_option maxHeartbeats 800000 in
/-- Every weakly fair execution of @main terminates with the pipeline's arrays at the contents the proof data names, every
    other buffer at the contents after the last host lines, and the counters at zero. -/
theorem run_main (hO : Ok m) : θ_run defs (onTc (τ := τ) (main (F := F))) (s₀ m ρ)
    (fun r => Pipeline.FramePost (Pipeline.pin pcfgs fun _ => adm m hO) (dats m hO) 0
      (Pipeline.afterTail pcfgs (fun _ => adm m hO) (dats m hO) 0 (V0 m) [hostOps1]) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m)
    (hin := fun c => by
      show iprop(Pipeline.ΦA spec0 c ∗ Pipeline.ΦT pre0 (tbl m) c) ⊢ iprop((iprop(∃ X, ⌜Scored m hO c 0 X⌝ ∗ owns (c : Thread nD τ) scM0_0 fullShare X) ∗ (∃ r, prngReg c r)) ∗ Pipeline.ΦT pre0 (tbl m) c)
      rw [PhiA0_eq]
      iintro ⟨⟨⟨%X, HS⟩, Hg⟩, HT⟩
      isplitl [HS Hg]
      · isplitl [HS]
        · iexists X; isplitr
          · ipureintro; intro j hj; exact absurd hj (by simp)
          iexact HS
        iexact Hg
      iexact HT)
    (hout := fun c => by
      show iprop((iprop(∃ X, ⌜Scored m hO c (cfgM m hO).N X⌝ ∗ owns (c : Thread nD τ) scM0_0 fullShare X) ∗ (∃ r, prngReg c r)) ∗ Pipeline.ΦT pre0 (tbl m) c) ⊢ Pipeline.ΦA spec0 c
      rw [PhiA0_eq]
      iintro ⟨⟨⟨%X, -, HS⟩, Hg⟩, -⟩
      isplitl [HS]
      · iexists X; iexact HS
      iexact Hg)

/-- The argument arrays end unchanged and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (by decide : main_arg0 ∈ Pipeline.restRefs sig spec0)).trans (W_main_arg0 m hO _ c),
      ((h.1 c).2 main_arg1 (by decide : main_arg1 ∈ Pipeline.restRefs sig spec0)).trans (W_main_arg1 m hO _ c),
      ((h.1 c).1 1).trans (((dats m hO 0 c).arrAt_in 1 rfl _).trans ((A_eq m hO c 1).trans (V_main_arg2 m c))),
      ((h.1 c).2 main_arg3 (by decide : main_arg3 ∈ Pipeline.restRefs sig spec0)).trans (W_main_arg3 m hO _ c)⟩, h.2⟩) (run_main m ρ hO)

end Cert.KernelIdeal.Launch

end
-- ==== Proof.KernelFrame.lean ====
/- The kernel's frame over machine words. The program over machine words and the program over the extended reals are one
   text, so the frame proved for any float values serves both. -/
module

public import proofs.«01_k».proof.Defs
public import proofs.«01_k».proof.Proof.Gen.Kernel
public import proofs.«01_k».proof.Proof.Frame

@[expose] public section

set_option maxRecDepth 16384

noncomputable section

namespace Cert.KernelIdeal.Launch

open Idealize.ShloMosaic Idealize.ShloMosaic.TcCoe Idealize.SL Idealize.SL.Sem

variable {F : FTy → Type} [FloatOps F]

/-- No index map reads the labels, so the windows stay inside their arrays whatever the labels are. -/
theorem ok_all (m : (ℓ : Loc nD τ sig) → Buf (Elt F) ℓ) : Ok m := by
  unfold Ok ok0
  decide

/-- The two texts give one kernel body. -/
theorem body_eq : @Cert.Kernel.cc0__lambda_ Bits _ _ = @Cert.KernelIdeal.cc0__lambda_ Bits _ _ := rfl

theorem kdefs_eq : Cert.Kernel.defs₀ (F := Bits) = Cert.KernelIdeal.defs₀ (F := Bits) := by
  unfold Cert.Kernel.defs₀ Cert.KernelIdeal.defs₀
  congr 1
  funext l x
  match l, x with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) kdefs_eq

/-- The kernel's frame over machine words. -/
theorem frame_words : Cert.quiescent_Kernel (hKernel := Cert.Kernel.Gen.facts) := by
  intro m g h
  have key := frame (F := Bits) m g (ok_all m)
  rw [← defs_eq] at key
  exact key

end Cert.KernelIdeal.Launch

end
-- ==== Proof.Frames.lean ====
/- The frames of the three programs. -/
module

public import proofs.«01_k».proof.Defs
public import proofs.«01_k».proof.Proof.KernelFrame
public import proofs.«01_k».proof.Proof.Gen.ReferenceIdeal.Run

@[expose] public section

noncomputable section

namespace Cert.Proof

open Idealize.ShloMosaic Idealize.SL.Sem

/-- The kernel over machine words. -/
theorem frame_kernel : Cert.quiescent_Kernel (hKernel := Cert.Kernel.Gen.facts) := Cert.KernelIdeal.Launch.frame_words

/-- The kernel over the extended reals. -/
theorem frame_ideal : Cert.quiescent_KernelIdeal (hKernelIdeal := Cert.KernelIdeal.Gen.facts) :=
  fun m g _ => Cert.KernelIdeal.Launch.frame (F := Ideal) m g (Cert.KernelIdeal.Launch.ok_all m)

/-- The reference: it declares no semaphore. -/
theorem frame_reference : Cert.quiescent_ReferenceIdeal (hReferenceIdeal := Cert.ReferenceIdeal.Gen.facts) :=
  fun m g _ => (θ_run Cert.ReferenceIdeal.defs _ _).mono
    (fun r h => ⟨fun c => (h c).2.2, sem_eq_zero_of_no_sems (by decide) r.2⟩) (Cert.ReferenceIdeal.Value.run (F := Ideal) m g)

end Cert.Proof

end
-- ==== Proof.Result.lean ====
/- What the run leaves in the two result arrays, and what the staged blocks hold, as functions of the arguments. -/
module

public import proofs.«01_k».proof.Proof.Frame
public import Idealize.ShloMosaic.Lib.Pipeline.ValueKit.Geometry
public import Idealize.ShloMosaic.Lib.Pointwise

@[expose] public section

set_option maxRecDepth 16384

noncomputable section

namespace Cert.KernelIdeal.Launch

open Idealize.ShloMosaic Idealize.ShloMosaic.TcCoe
open Idealize.SL Idealize.SL.Sem
open Cert.KernelIdeal.Gen

variable {F : FTy → Type} [FloatOps F]

variable (m : (ℓ : Loc nD τ sig) → Buf (Elt F) ℓ) (ρ : Dev nD → PrngReg)

/-! ## Where a block's elements sit in its array -/

theorem at_0 : ∀ t : Fin grid0.N, cc0_transform_0 (grid0.coords t) (0 : Fin 3) = t.val ∧ cc0_transform_0 (grid0.coords t) (1 : Fin 3) = 0
    ∧ cc0_transform_0 (grid0.coords t) (2 : Fin 3) = 0 := by decide +kernel
theorem at_4 : ∀ t : Fin grid0.N, cc0_transform_4 (grid0.coords t) (0 : Fin 3) = t.val ∧ cc0_transform_4 (grid0.coords t) (1 : Fin 3) = 0
    ∧ cc0_transform_4 (grid0.coords t) (2 : Fin 3) = 0 := by decide +kernel

/-- Plane `s` of point `t`'s block of `x` is batch row `4 t + s`. -/
theorem place_x (hO : Ok m) (t : Fin (cfgM m hO).N) (j : S4x768x576.Idx) (r : Fin 64) (hr : r.val = 4 * t.val + (j 0).val) :
    (((cfgM m hO).win 0).blk t).view.emb j = Idealize.ShloMosaic.ix3 r (j 1 : Fin 768) (j 2 : Fin 576) := by
  obtain ⟨e0, e1, e2⟩ := at_0 t
  funext a; apply Fin.ext
  match a with
  | ⟨0, _⟩ => show cc0_transform_0 (grid0.coords t) (0 : Fin 3) * 4 + 1 * (j 0).val = r.val; omega
  | ⟨1, _⟩ => show cc0_transform_0 (grid0.coords t) (1 : Fin 3) * 768 + 1 * (j 1).val = (j 1).val; omega
  | ⟨2, _⟩ => show cc0_transform_0 (grid0.coords t) (2 : Fin 3) * 576 + 1 * (j 2).val = (j 2).val; omega

theorem place_w (hO : Ok m) (t : Fin (cfgM m hO).N) (j : S4x768.Idx) : (((cfgM m hO).win 1).blk t).view.emb j = j := by
  funext a; apply Fin.ext
  match a with
  | ⟨0, _⟩ => show 0 * 4 + 1 * (j 0).val = (j 0).val; omega
  | ⟨1, _⟩ => show 0 * 768 + 1 * (j 1).val = (j 1).val; omega

theorem place_wt (hO : Ok m) (t : Fin (cfgM m hO).N) (j : S768x4.Idx) : (((cfgM m hO).win 2).blk t).view.emb j = j := by
  funext a; apply Fin.ext
  match a with
  | ⟨0, _⟩ => show 0 * 768 + 1 * (j 0).val = (j 0).val; omega
  | ⟨1, _⟩ => show 0 * 4 + 1 * (j 1).val = (j 1).val; omega

theorem place_b (hO : Ok m) (t : Fin (cfgM m hO).N) (j : S1x4.Idx) : (((cfgM m hO).win 3).blk t).view.emb j = j := by
  funext a; apply Fin.ext
  match a with
  | ⟨0, _⟩ => show 0 * 1 + 1 * (j 0).val = (j 0).val; omega
  | ⟨1, _⟩ => show 0 * 4 + 1 * (j 1).val = (j 1).val; omega

/-- Row `s` of the logits' block of point `t` is batch row `4 t + s`. -/
theorem place_y (hO : Ok m) (t : Fin (cfgM m hO).N) (j : S4x1x4.Idx) (r : Fin 64) (hr : r.val = 4 * t.val + (j 0).val) :
    (((cfgM m hO).win 4).blk t).view.emb j = Idealize.ShloMosaic.ix3 r (0 : Fin 1) (j 2 : Fin 4) := by
  obtain ⟨e0, e1, e2⟩ := at_4 t
  have h1 : (j 1).val < 1 := (j 1).isLt
  funext a; apply Fin.ext
  match a with
  | ⟨0, _⟩ => show cc0_transform_4 (grid0.coords t) (0 : Fin 3) * 4 + 1 * (j 0).val = r.val; omega
  | ⟨1, _⟩ => show cc0_transform_4 (grid0.coords t) (1 : Fin 3) * 1 + 1 * (j 1).val = 0; omega
  | ⟨2, _⟩ => show cc0_transform_4 (grid0.coords t) (2 : Fin 3) * 4 + 1 * (j 2).val = (j 2).val; omega

theorem place_mask (hO : Ok m) (t : Fin (cfgM m hO).N) (j : S64x768.Idx) : (((cfgM m hO).win 5).blk t).view.emb j = j := by
  funext a; apply Fin.ext
  match a with
  | ⟨0, _⟩ => show 0 * 64 + 1 * (j 0).val = (j 0).val; omega
  | ⟨1, _⟩ => show 0 * 768 + 1 * (j 1).val = (j 1).val; omega

/-! ## The arrays the region reads -/

theorem V_main_v0 (c : Dev nD) : V m c main_v0 = shapeCast S64x768x576 (m ((c : Thread nD τ).loc main_arg0)) shapeCasts_S64x768x24x24_S64x768x576 := by
  show StableHlo.after hostOps0 (fun b => m (c, b)) (Proc.devRef .tc main_v0) = _
  after_results_simp <;> rfl
theorem V_main_v1 (c : Dev nD) : V m c main_v1 = transpose S768x4 [1, 0] (m ((c : Thread nD τ).loc main_arg2)) transposes_S4x768_S768x4_1_0 := by
  show StableHlo.after hostOps0 (fun b => m (c, b)) (Proc.devRef .tc main_v1) = _
  after_results_simp <;> rfl
theorem V_main_v2 (c : Dev nD) : V m c main_v2 = shapeCast S1x4 (m ((c : Thread nD τ).loc main_arg3)) shapeCasts_S4_S1x4 := by
  show StableHlo.after hostOps0 (fun b => m (c, b)) (Proc.devRef .tc main_v2) = _
  after_results_simp <;> rfl

/-! ## The staged blocks -/

/-- The plane that scores batch row `r`. -/
theorem slab_at (hO : Ok m) (c : Dev nD) (r : Fin 64) (x : Fin 768) (p : Fin 576) (z : Fin 1) :
    slab (iblk m hO c 0 (ptOf m hO r)) ⟨r.val % 4, Nat.mod_lt _ (by decide)⟩ (Idealize.ShloMosaic.ix3 z x p)
      = shapeCast S64x768x576 (m ((c : Thread nD τ).loc main_arg0)) shapeCasts_S64x768x24x24_S64x768x576 (Idealize.ShloMosaic.ix3 r x p) := by
  rw [← V_main_v0]
  exact congrArg (V m c main_v0) (place_x m hO (ptOf m hO r) _ r (show r.val = 4 * (r.val / 4) + r.val % 4 by omega))

theorem iblk_w (hO : Ok m) (c : Dev nD) (t : Fin (cfgM m hO).N) : iblk m hO c 1 t = m ((c : Thread nD τ).loc main_arg2) := by
  refine Eq.trans (b := V m c main_arg2) ?_ (V_main_arg2 m c)
  exact funext fun j => congrArg (V m c main_arg2) (place_w m hO t j)

theorem iblk_wt (hO : Ok m) (c : Dev nD) (t : Fin (cfgM m hO).N) :
    iblk m hO c 2 t = transpose S768x4 [1, 0] (m ((c : Thread nD τ).loc main_arg2)) transposes_S4x768_S768x4_1_0 := by
  refine Eq.trans (b := V m c main_v1) ?_ (V_main_v1 m c)
  exact funext fun j => congrArg (V m c main_v1) (place_wt m hO t j)

theorem iblk_b (hO : Ok m) (c : Dev nD) (t : Fin (cfgM m hO).N) :
    iblk m hO c 3 t = shapeCast S1x4 (m ((c : Thread nD τ).loc main_arg3)) shapeCasts_S4_S1x4 := by
  refine Eq.trans (b := V m c main_v2) ?_ (V_main_v2 m c)
  exact funext fun j => congrArg (V m c main_v2) (place_b m hO t j)

theorem lbls_eq : lbls m = m (((0 : Dev nD) : Thread nD τ).loc main_arg1) := V_main_arg1 m 0

/-! ## The result arrays -/

/-- The logits, row by row from the blocks of the row's own point. -/
def logitsArr (hO : Ok m) (c : Dev nD) : Vec F S64x1x4 .f32 := fun j =>
  yrow (slab (iblk m hO c 0 (ptOf m hO (j 0))) ⟨(j 0).val % 4, Nat.mod_lt _ (by decide)⟩) (iblk m hO c 1 (ptOf m hO (j 0)))
    (iblk m hO c 3 (ptOf m hO (j 0))) (Idealize.ShloMosaic.ix3 (0 : Fin 1) (0 : Fin 1) (j 2 : Fin 4))

theorem final_y (hO : Ok m) (c : Dev nD) : (dats m hO 0 c).arrAt 4 (cfgM m hO).N = logitsArr m hO c := by
  refine (dats m hO 0 c).arrAt_eq_of_emb 4 (logitsArr m hO c) (fun t _ (y : S4x1x4.Idx) => ?_) fun (i : S64x1x4.Idx) => ?_
  · have hr : 4 * t.val + (y 0).val < 64 := by
      have h1 : t.val < 16 := Nat.lt_of_lt_of_eq t.isLt N_0
      have h2 : (y 0).val < 4 := (y 0).isLt
      omega
    have h2 : (y 0).val < 4 := (y 0).isLt
    rw [after0_4]
    refine Eq.trans ?_ (congrArg (logitsArr m hO c) (place_y m hO t y ⟨_, hr⟩ rfl)).symm
    have hp : ptOf m hO ⟨4 * t.val + (y 0).val, hr⟩ = t := Fin.ext (show (4 * t.val + (y 0).val) / 4 = t.val by omega)
    have hs : (⟨(4 * t.val + (y 0).val) % 4, Nat.mod_lt _ (by decide)⟩ : Fin 4) = ⟨(y 0).val, h2⟩ := Fin.ext (show (4 * t.val + (y 0).val) % 4 = (y 0).val by omega)
    show yrow (slab (iblk m hO c 0 t) ⟨(y 0).val, h2⟩) (iblk m hO c 1 t) (iblk m hO c 3 t) (Idealize.ShloMosaic.ix3 (0 : Fin 1) (0 : Fin 1) (y 2 : Fin 4))
      = yrow (slab (iblk m hO c 0 (ptOf m hO ⟨4 * t.val + (y 0).val, hr⟩)) ⟨(4 * t.val + (y 0).val) % 4, Nat.mod_lt _ (by decide)⟩)
          (iblk m hO c 1 (ptOf m hO ⟨4 * t.val + (y 0).val, hr⟩)) (iblk m hO c 3 (ptOf m hO ⟨4 * t.val + (y 0).val, hr⟩))
          (Idealize.ShloMosaic.ix3 (0 : Fin 1) (0 : Fin 1) (y 2 : Fin 4))
    rw [hp, hs]
  · let r : Fin 64 := i 0
    let y : S4x1x4.Idx := Idealize.ShloMosaic.ix3 (⟨r.val % 4, Nat.mod_lt _ (by decide)⟩ : Fin 4) (0 : Fin 1) (i 2 : Fin 4)
    refine ⟨ptOf m hO r, flush0_4 (adm m hO) _, ?_⟩
    have h := (((cfgM m hO).win 4).blk (ptOf m hO r)).view.emb_mem_set y
    rw [place_y m hO (ptOf m hO r) y r (show r.val = 4 * (r.val / 4) + r.val % 4 by omega)] at h
    have e : i = Idealize.ShloMosaic.ix3 r (0 : Fin 1) (i 2 : Fin 4) := by
      funext a
      match a with
      | ⟨0, _⟩ => rfl
      | ⟨1, _⟩ => exact Fin.ext (show (i 1).val = 0 by have : (i 1).val < 1 := (i 1).isLt; omega)
      | ⟨2, _⟩ => rfl
    rw [e]; exact h

theorem final_of_after (hO : Ok m) (c : Dev nD) (M : Vec F S64x768 .f32) (hM : ∀ t, (dats m hO 0 c).after 5 t = M) :
    (dats m hO 0 c).arrAt 5 (cfgM m hO).N = M := by
  refine (dats m hO 0 c).arrAt_eq_of_emb 5 M (fun t _ (y : S64x768.Idx) => ?_) fun (i : S64x768.Idx) => ?_
  · rw [hM]
    exact (congrArg M (place_mask m hO t y)).symm
  · let t : Fin (cfgM m hO).N := ⟨15, lt_of_lt_of_eq (by norm_num) (show (cfgM m hO).N = 16 from N_0).symm⟩
    refine ⟨t, (flush0_5 (adm m hO) t).mpr rfl, ?_⟩
    have h := (((cfgM m hO).win 5).blk t).view.emb_mem_set i
    rwa [place_mask m hO t i] at h

/-- The mask's array: the one write-back is of the mask of the whole score array. -/
theorem final_mask (hO : Ok m) (c : Dev nD) : (dats m hO 0 c).arrAt 5 (cfgM m hO).N = maskOf (scores m hO c) :=
  final_of_after m hO c _ (after0_5 m hO c)

/-- The two results after the last host lines. -/
theorem W_main_v4 (hO : Ok m) (c : Dev nD) :
    Pipeline.afterTail pcfgs (fun _ => adm m hO) (dats m hO) 0 (V0 m) [hostOps1] c main_v4
      = shapeCast S64x4 (logitsArr m hO c) shapeCasts_S64x1x4_S64x4 := by
  unfold Pipeline.afterTail
  show StableHlo.after hostOps1 _ (Proc.devRef .tc main_v4) = _
  rw [← final_y]
  after_results_simp
  exact congrArg (fun X => shapeCast _ X _) (Pipeline.withArrays_arr spec0 (launch0 (F := F)).win.arr_inj c (V0 m c) (fun w => (dats m hO 0 c).arrAt w (cfgM m hO).N) 4)

theorem W_main_v5 (hO : Ok m) (c : Dev nD) :
    Pipeline.afterTail pcfgs (fun _ => adm m hO) (dats m hO) 0 (V0 m) [hostOps1] c main_v5
      = shapeCast S64x768x1x1 (maskOf (scores m hO c)) shapeCasts_S64x768_S64x768x1x1 := by
  unfold Pipeline.afterTail
  show StableHlo.after hostOps1 _ (Proc.devRef .tc main_v5) = _
  rw [← final_mask]
  after_results_simp
  exact congrArg (fun X => shapeCast _ X _) (Pipeline.withArrays_arr spec0 (launch0 (F := F)).win.arr_inj c (V0 m c) (fun w => (dats m hO 0 c).arrAt w (cfgM m hO).N) 5)

end Cert.KernelIdeal.Launch

end
-- ==== Proof.RefRows.lean ====
/- The reference over the extended reals. -/
module

public import proofs.«01_k».proof.Proof.Gen.ReferenceIdeal
public import proofs.«01_k».proof.Proof.Gen.ReferenceIdeal.Run
public import Idealize.ShloMosaic.Lib.Pointwise
public import Idealize.ShloMosaic.Lib.IdealHost
public import Idealize.ShloMosaic.Lib.Routing.Ops
public import Idealize.ShloMosaic.Lib.Routing.OpsPair

@[expose] public section

set_option maxRecDepth 16384

noncomputable section

namespace Cert.ReferenceIdeal.Rows

open Idealize.ShloMosaic Idealize.ShloMosaic.TcCoe
open Cert.ReferenceIdeal Cert.ReferenceIdeal.Gen

variable {F : FTy → Type} [FloatOps F]

/-- The label's weights. -/
def picked (l : IVec S64 32) (w : FVec F S4x768 .f32) : FVec F S64x768 .f32 :=
  Host.gather gather_S4x768_S64x1_S64x768_1_0_n_n_0_1_1768 w (broadcastInDim S64x1 ![0] bcast_S64_S64x1_0 (select (cmpi .slt l (broadcastInDim S64 ![] bcast_S_S64 (constantI S_ 32 0#32))) (addi l (broadcastInDim S64 ![] bcast_S_S64 (constantI S_ 32 4#32))) l))

/-- The weighted channels. -/
def weighted (x : FVec F S64x768x24x24 .f32) (wl : FVec F S64x768 .f32) : FVec F S64x768x24x24 .f32 :=
  mulf x (broadcastInDim S64x768x24x24 ![0, 1, 2, 3] bcast_S64x768x1x1_S64x768x24x24_0_1_2_3 (broadcastInDim S64x768x1x1 ![0, 1] bcast_S64x768_S64x768x1x1_0_1 wl))

/-- The greatest and the least weighted channel of each pixel. -/
def greatest (t : FVec F S64x768x24x24 .f32) : FVec F S64x24x24 .f32 :=
  Host.reduce FloatOps.maximumf t (constant S_ .f32 0xFF800000#32) reducesTo_S64x768x24x24_S64x24x24_d1 h_S_
def least (t : FVec F S64x768x24x24 .f32) : FVec F S64x24x24 .f32 :=
  Host.reduce FloatOps.minimumf t (constant S_ .f32 0x7F800000#32) reducesTo_S64x768x24x24_S64x24x24_d1 h_S_

/-- The weighted channels, less the least and over the spread of their pixel. -/
def normed (t : FVec F S64x768x24x24 .f32) (hi lo : FVec F S64x24x24 .f32) : FVec F S64x768x24x24 .f32 :=
  Host.divf (subf t (broadcastInDim S64x768x24x24 ![0, 1, 2, 3] bcast_S64x1x24x24_S64x768x24x24_0_1_2_3 (broadcastInDim S64x1x24x24 ![0, 2, 3] bcast_S64x24x24_S64x1x24x24_0_2_3 lo))) (broadcastInDim S64x768x24x24 ![0, 1, 2, 3] bcast_S64x1x24x24_S64x768x24x24_0_1_2_3 (subf (broadcastInDim S64x1x24x24 ![0, 2, 3] bcast_S64x24x24_S64x1x24x24_0_2_3 hi) (broadcastInDim S64x1x24x24 ![0, 2, 3] bcast_S64x24x24_S64x1x24x24_0_2_3 lo)))

/-- The mean over the pixels. -/
def mean (v : FVec F S64x768x24x24 .f32) : FVec F S64x768 .f32 :=
  Host.divf (Host.reduceAdd v (constant S_ .f32 0x00000000#32) reducesTo_S64x768x24x24_S64x768_d2_3 h_S_) (broadcastInDim S64x768 ![] bcast_S_S64x768 (constant S_ .f32 0x44100000#32))

/-- The channel scores. -/
def scores (t : FVec F S64x768x24x24 .f32) : FVec F S64x768 .f32 := mean (normed t (greatest t) (least t))

/-- The logits. -/
def logits (x : FVec F S64x768x24x24 .f32) (w : FVec F S4x768 .f32) (b : FVec F S4 .f32) : FVec F S64x4 .f32 :=
  addf (Host.dotGeneral dot_S64x768_S768x4_S64x4_1_0_0_1_n_n none (mean x) (transpose S768x4 [1, 0] w transposes_S4x768_S768x4_1_0)) (broadcastInDim S64x4 ![0, 1] bcast_S1x4_S64x4_0_1 (broadcastInDim S1x4 ![1] bcast_S4_S1x4_1 b))

/-- The 253 channels of each row that are dropped. -/
def dropped (s : FVec F S64x768 .f32) : IVec S64x253 32 :=
  (Host.topK S64x253 1 (FloatOps.cmpfTotal .gt) s sliceFits_S64x768_S64x253).2

/-- The mask that is zero at the dropped channels. -/
def mask (d : IVec S64x253 32) : FVec F S64x768 .f32 :=
  Host.scatter scatter_S64x768_S64x253x2_S64x253_n_01_01_2 (fun _ b => b) (broadcastInDim S64x768 ![] bcast_S_S64x768 (constant S_ .f32 0x3F800000#32)) (concatenate S64x253x2 2 [⟨S64x253x1, (broadcastInDim S64x253x1 ![0, 1] bcast_S64x253_S64x253x1_0_1 (broadcastInDim S64x253 ![0, 1] bcast_S64x1_S64x253_0_1 (select (cmpi .slt (broadcastInDim S64x1 ![0] bcast_S64_S64x1_0 (iotaInDim S64 32 0)) (broadcastInDim S64x1 ![] bcast_S_S64x1 (constantI S_ 32 0#32))) (addi (broadcastInDim S64x1 ![0] bcast_S64_S64x1_0 (iotaInDim S64 32 0)) (broadcastInDim S64x1 ![] bcast_S_S64x1 (constantI S_ 32 64#32))) (broadcastInDim S64x1 ![0] bcast_S64_S64x1_0 (iotaInDim S64 32 0)))))⟩, ⟨S64x253x1, (broadcastInDim S64x253x1 ![0, 1] bcast_S64x253_S64x253x1_0_1 (select (cmpi .slt d (broadcastInDim S64x253 ![] bcast_S_S64x253 (constantI S_ 32 0#32))) (addi d (broadcastInDim S64x253 ![] bcast_S_S64x253 (constantI S_ 32 768#32))) d))⟩] concatenates_S64x253x1_S64x253x1_S64x253x2_d2) (broadcastInDim S64x253 ![] bcast_S_S64x253 (constant S_ .f32 0x00000000#32))

theorem mask_eq (m : (ℓ : Loc nD τ sig) → Buf (Elt F) ℓ) (c : Dev nD) :
    Value.res_main_v49 m c = shapeCast _ (mask (F := F) (dropped (scores (weighted (m ((c.tc : Thread nD τ).loc main_arg0))
      (picked (m ((c.tc : Thread nD τ).loc main_arg1)) (m ((c.tc : Thread nD τ).loc main_arg2))))))) shapeCasts_S64x768_S64x768x1x1 := rfl

theorem weighted_at (x : FVec Ideal S64x768x24x24 .f32) (wl : FVec Ideal S64x768 .f32) (r : Fin 64) (c : Fin 768) (h w : Fin 24) :
    weighted (F := Ideal) x wl (Idealize.ShloMosaic.ix4 r c h w) = x (Idealize.ShloMosaic.ix4 r c h w) * wl (Idealize.ShloMosaic.ix2 r c) := by
  pointwise [weighted]

theorem mean_at (v : FVec Ideal S64x768x24x24 .f32) (r : Fin 64) (c : Fin 768) :
    mean (F := Ideal) v (Idealize.ShloMosaic.ix2 r c)
      = Ideal.div (∑ h : Fin 24, ∑ w : Fin 24, v (Idealize.ShloMosaic.ix4 r c h w)) (Ideal.ofBits .f32 1141899264#32) := by
  pointwise [mean]

theorem logits_at (x : FVec Ideal S64x768x24x24 .f32) (w : FVec Ideal S4x768 .f32) (b : FVec Ideal S4 .f32) (r : Fin 64) (k : Fin 4) :
    logits (F := Ideal) x w b (Idealize.ShloMosaic.ix2 r k)
      = (∑ c : Fin 768, mean (F := Ideal) x (Idealize.ShloMosaic.ix2 r c) * w (Idealize.ShloMosaic.ix2 k c)) + b (Idealize.ShloMosaic.ix1 k) := by
  pointwise [logits]

theorem normed_at (t : FVec Ideal S64x768x24x24 .f32) (hi lo : FVec Ideal S64x24x24 .f32) (r : Fin 64) (c : Fin 768) (h w : Fin 24) :
    normed (F := Ideal) t hi lo (Idealize.ShloMosaic.ix4 r c h w)
      = Ideal.div (t (Idealize.ShloMosaic.ix4 r c h w) - lo (Idealize.ShloMosaic.ix3 r h w)) (hi (Idealize.ShloMosaic.ix3 r h w) - lo (Idealize.ShloMosaic.ix3 r h w)) := by
  pointwise [normed]

theorem greatest_at (t : FVec Ideal S64x768x24x24 .f32) (r : Fin 64) (h w : Fin 24) :
    greatest (F := Ideal) t (Idealize.ShloMosaic.ix3 r h w)
      = Finset.fold max (Ideal.ofBits .f32 4286578688#32) (fun c : Fin 768 => t (Idealize.ShloMosaic.ix4 r c h w)) Finset.univ := by
  pointwise [greatest]

theorem least_at (t : FVec Ideal S64x768x24x24 .f32) (r : Fin 64) (h w : Fin 24) :
    least (F := Ideal) t (Idealize.ShloMosaic.ix3 r h w)
      = Finset.fold min (Ideal.ofBits .f32 2139095040#32) (fun c : Fin 768 => t (Idealize.ShloMosaic.ix4 r c h w)) Finset.univ := by
  pointwise [least]

/-- The weights of a label in range are its row of the table. -/
theorem picked_at (l : IVec S64 32) (w : FVec Ideal S4x768 .f32) (r : Fin 64) (c : Fin 768) (k : Fin 4)
    (hl : l (Idealize.ShloMosaic.ix1 r) = BitVec.ofNat 32 k.val) :
    picked (F := Ideal) l w (Idealize.ShloMosaic.ix2 r c) = w (Idealize.ShloMosaic.ix2 k c) := by
  have hk : k.val < 2 ^ 31 := lt_trans k.isLt (by norm_num)
  refine Routing.gather_row _ rfl rfl rfl rfl rfl w _ r c k ?_ (by norm_num)
  have h : broadcastInDim S64x1 ![0] bcast_S64_S64x1_0 (select (cmpi .slt l (broadcastInDim S64 ![] bcast_S_S64 (constantI S_ 32 0#32)))
      (addi l (broadcastInDim S64 ![] bcast_S_S64 (constantI S_ 32 4#32))) l) (Idealize.ShloMosaic.ix2 r (0 : Fin 1))
      = Scalar.select (IntOp.cmpi .slt (l (Idealize.ShloMosaic.ix1 r)) 0#32) (IntOp.addi (l (Idealize.ShloMosaic.ix1 r)) 4#32) (l (Idealize.ShloMosaic.ix1 r)) := by
    pointwise
  refine h.trans ?_
  rw [Routing.wrap_of_lt _ _ (by rw [hl, WordCmp.toNat_ofNat_of_lt (lt_trans hk (by norm_num))]; exact hk), hl]

end Cert.ReferenceIdeal.Rows

end
-- ==== Proof.Rank.lean ====
/- Counting facts about the largest entries of a finite family: a threshold found bit by bit, the rank of an entry with ties
   broken by the lower index, and the entries at the head of a sorted listing. -/
module

public import Idealize.ShloMosaic.PureOps.Ideal
public import Idealize.ShloMosaic.Lib.WordCmp

@[expose] public section

namespace Cert.Rank

open Finset

/-- `x` stands before `c`: its key is greater, or equal with a lower index. -/
def before {n : ℕ} {α : Type*} [LinearOrder α] (key : Fin n → α) (x c : Fin n) : Prop := key c < key x ∨ key x = key c ∧ x < c

instance {n : ℕ} {α : Type*} [LinearOrder α] (key : Fin n → α) (x c : Fin n) : Decidable (before key x c) := by
  unfold before; infer_instance

/-- How many entries stand before `c`. -/
def rank {n : ℕ} {α : Type*} [LinearOrder α] (key : Fin n → α) (c : Fin n) : ℕ := (univ.filter fun x => before key x c).card

/-- How many keys reach `t`. -/
def reached {n : ℕ} (key : Fin n → ℕ) (t : ℕ) : ℕ := (univ.filter fun x => t ≤ key x).card

/-- The code of an entry: how many entries are smaller. -/
def code {n : ℕ} {α : Type*} [LinearOrder α] (s : Fin n → α) (c : Fin n) : ℕ := (univ.filter fun x => s x < s c).card

theorem code_le {n : ℕ} {α : Type*} [LinearOrder α] (s : Fin n → α) (c : Fin n) : code s c ≤ n :=
  (card_le_univ _).trans (Fintype.card_fin n).le

theorem code_mono {n : ℕ} {α : Type*} [LinearOrder α] (s : Fin n → α) {c x : Fin n} (h : s c ≤ s x) : code s c ≤ code s x :=
  card_le_card fun y hy => by
    simp only [mem_filter, mem_univ, true_and] at hy ⊢
    exact lt_of_lt_of_le hy h

/-- The codes are in the order of the entries. -/
theorem code_lt_iff {n : ℕ} {α : Type*} [LinearOrder α] (s : Fin n → α) (c x : Fin n) : code s c < code s x ↔ s c < s x := by
  constructor
  · intro h
    by_contra hle
    exact absurd (code_mono s (not_lt.mp hle)) (not_le.mpr h)
  · intro h
    refine card_lt_card ⟨fun y hy => ?_, fun hs => ?_⟩
    · simp only [mem_filter, mem_univ, true_and] at hy ⊢
      exact hy.trans h
    · have hc := hs (show c ∈ univ.filter (fun y => s y < s x) by simpa using h)
      simp at hc

theorem code_eq_iff {n : ℕ} {α : Type*} [LinearOrder α] (s : Fin n → α) (c x : Fin n) : code s c = code s x ↔ s c = s x := by
  constructor
  · intro h
    rcases lt_trichotomy (s c) (s x) with hl | he | hg
    · exact absurd ((code_lt_iff s c x).mpr hl) (by omega)
    · exact he
    · exact absurd ((code_lt_iff s x c).mpr hg) (by omega)
  · intro h
    exact le_antisymm (code_mono s h.le) (code_mono s h.ge)

/-- An entry has the same rank by its code as by itself. -/
theorem rank_code {n : ℕ} {α : Type*} [LinearOrder α] (s : Fin n → α) (c : Fin n) : rank (code s) c = rank s c := by
  unfold rank
  refine congrArg card (filter_congr fun x _ => ?_)
  unfold before
  rw [code_lt_iff, code_eq_iff]

/-- At the largest threshold that `K` keys reach: an entry is above the threshold, or at it and among the first entries there
    that fill `K` places, exactly when fewer than `K` entries stand before it. -/
theorem above_iff {n : ℕ} (key : Fin n → ℕ) (K T : ℕ) (hP : K ≤ reached key T) (hN : ¬ K ≤ reached key (T + 1)) (c : Fin n) :
    (T < key c ∨ key c = T ∧
        (univ.filter fun x => key x = T ∧ x ≤ c).card + (univ.filter fun x => T < key x).card ≤ K)
      ↔ rank key c < K := by
  unfold reached at hP hN
  rcases lt_trichotomy (key c) T with hl | he | hg
  · have hsub : (univ.filter fun x => T ≤ key x).card ≤ rank key c := card_le_card fun x hx => by
      rw [mem_filter] at hx ⊢
      exact ⟨mem_univ _, Or.inl (lt_of_lt_of_le hl hx.2)⟩
    constructor
    · rintro (h | h) <;> omega
    · intro h
      omega
  · have hsplit : rank key c = (univ.filter fun x => T < key x).card + (univ.filter fun x => key x = T ∧ x < c).card := by
      have hu : (univ.filter fun x => before key x c) = (univ.filter fun x => T < key x) ∪ (univ.filter fun x => key x = T ∧ x < c) := by
        ext x
        simp only [mem_union, mem_filter, mem_univ, true_and]
        exact he ▸ Iff.rfl
      unfold rank
      rw [hu, card_union_of_disjoint]
      rw [disjoint_filter]
      intro x _ h1 h2
      omega
    have hins : (univ.filter fun x => key x = T ∧ x ≤ c) = insert c (univ.filter fun x => key x = T ∧ x < c) := by
      ext x
      simp only [mem_filter, mem_univ, true_and, mem_insert]
      constructor
      · rintro ⟨h1, h2⟩
        rcases h2.lt_or_eq with h | h
        · exact .inr ⟨h1, h⟩
        · exact .inl h
      · rintro (rfl | ⟨h1, h2⟩)
        · exact ⟨he, le_refl _⟩
        · exact ⟨h1, h2.le⟩
    have hcard : (univ.filter fun x => key x = T ∧ x ≤ c).card = (univ.filter fun x => key x = T ∧ x < c).card + 1 := by
      rw [hins, card_insert_of_notMem]
      simp
    rw [hcard, hsplit]
    constructor
    · rintro (h | h) <;> omega
    · intro h
      exact .inr ⟨he, by omega⟩
  · have hsub : rank key c ≤ (univ.filter fun x => T + 1 ≤ key x).card := card_le_card fun x hx => by
      rw [mem_filter] at hx ⊢
      refine ⟨mem_univ _, ?_⟩
      rcases hx.2 with h | h <;> omega
    constructor
    · intro _
      omega
    · intro _
      exact .inl hg

/-- The bits tried, highest first, from bit `n - 1` down. -/
def bitsBelow : ℕ → List ℕ
  | 0 => []
  | n + 1 => 2 ^ n :: bitsBelow n

/-- Deciding bits from the top finds the largest value with a property, where the property holds at the start and not one
    range above it: the word form, each step adding its bit when the property holds there. -/
theorem fold_bits (P : ℕ → Prop) (step : BitVec 32 → BitVec 32 → BitVec 32)
    (hyes : ∀ t b : ℕ, t + b < 2 ^ 31 → P (t + b) → step (BitVec.ofNat 32 t) (BitVec.ofNat 32 b) = BitVec.ofNat 32 (t + b))
    (hno : ∀ t b : ℕ, t + b < 2 ^ 31 → ¬ P (t + b) → step (BitVec.ofNat 32 t) (BitVec.ofNat 32 b) = BitVec.ofNat 32 t) :
    ∀ (n t : ℕ), t + 2 ^ n ≤ 2 ^ 31 → P t → ¬ P (t + 2 ^ n) →
      ∃ T : ℕ, T < 2 ^ 31 ∧ P T ∧ ¬ P (T + 1) ∧
        ((bitsBelow n).map (BitVec.ofNat 32)).foldl step (BitVec.ofNat 32 t) = BitVec.ofNat 32 T
  | 0, t, ht, hP, hN => ⟨t, by rw [pow_zero] at ht; omega, hP, by simpa using hN, rfl⟩
  | n + 1, t, ht, hP, hN => by
    have hpow : 2 ^ (n + 1) = 2 ^ n + 2 ^ n := by rw [pow_succ]; omega
    have hpos : 0 < 2 ^ n := Nat.two_pow_pos n
    rw [hpow] at ht hN
    by_cases h : P (t + 2 ^ n)
    · obtain ⟨T, h1, h2, h3, h4⟩ := fold_bits P step hyes hno n (t + 2 ^ n) (by omega) h (by rwa [← add_assoc] at hN)
      refine ⟨T, h1, h2, h3, ?_⟩
      rw [bitsBelow, List.map_cons, List.foldl_cons, hyes t (2 ^ n) (by omega) h, h4]
    · obtain ⟨T, h1, h2, h3, h4⟩ := fold_bits P step hyes hno n t (by omega) hP h
      refine ⟨T, h1, h2, h3, ?_⟩
      rw [bitsBelow, List.map_cons, List.foldl_cons, hno t (2 ^ n) (by omega) h, h4]

/-- In a listing of all entries in which each stands before the later ones, the entry at place `k` has rank `k`. -/
theorem rank_listing {n : ℕ} {α : Type*} [LinearOrder α] (key : Fin n → α) (σ : Fin n → Fin n) (hσ : Function.Bijective σ)
    (hs : ∀ i j, i < j → before key (σ i) (σ j)) (k : Fin n) : rank key (σ k) = k.val := by
  have himg : (univ.filter fun x => before key x (σ k)) = (univ.filter fun i => i < k).image σ := by
    ext x
    obtain ⟨i, rfl⟩ := hσ.2 x
    simp only [mem_filter, mem_univ, true_and, mem_image]
    constructor
    · intro h
      refine ⟨i, ?_, rfl⟩
      by_contra hik
      rcases (not_lt.mp hik).lt_or_eq with hki | hki
      · rcases hs k i hki with h' | h' <;> rcases h with h | h
        · exact absurd (h.trans h') (lt_irrefl _)
        · exact absurd h' (by rw [h.1]; exact lt_irrefl _)
        · exact absurd h (by rw [h'.1]; exact lt_irrefl _)
        · exact absurd (h.2.trans h'.2) (lt_irrefl _)
      · subst hki
        rcases h with h | h
        · exact absurd h (lt_irrefl _)
        · exact absurd h.2 (lt_irrefl _)
    · rintro ⟨i', hi, he⟩
      rw [← he]
      exact hs i' k hi
  unfold rank
  rw [himg, card_image_of_injective _ hσ.1]
  have : (univ.filter fun i : Fin n => i < k) = Finset.Iio k := by ext; simp
  rw [this, Fin.card_Iio]

/-- The entries among the first `K` of such a listing are those of rank below `K`. -/
theorem listed_iff {n : ℕ} {α : Type*} [LinearOrder α] (key : Fin n → α) (σ : Fin n → Fin n) (hσ : Function.Bijective σ)
    (hs : ∀ i j, i < j → before key (σ i) (σ j)) (K : ℕ) (c : Fin n) :
    (∃ k : Fin n, k.val < K ∧ σ k = c) ↔ rank key c < K := by
  constructor
  · rintro ⟨k, hk, rfl⟩
    rwa [rank_listing key σ hσ hs]
  · intro h
    obtain ⟨k, rfl⟩ := hσ.2 c
    exact ⟨k, by rwa [rank_listing key σ hσ hs] at h, rfl⟩

end Cert.Rank
-- ==== Proof.RefMask.lean ====
/- The reference's mask over the extended reals: zero exactly at the channels of rank below 253. -/
module

public import proofs.«01_k».proof.Proof.RefRows
public import proofs.«01_k».proof.Proof.Rank
public import Idealize.ShloMosaic.Lib.PlanTiles.StableSort
public import Idealize.ShloMosaic.Lib.ScatterToDense.RefScatter

@[expose] public section

set_option maxRecDepth 16384

noncomputable section

namespace Cert.ReferenceIdeal.Rows

open Idealize.ShloMosaic Idealize.ShloMosaic.TcCoe
open Cert.ReferenceIdeal Cert.ReferenceIdeal.Gen Cert.Rank

/-- Where a stable sort by greater entry takes each place's entry from. -/
def listing {n : ℕ} (s : Fin n → EReal) (k : Fin n) : Fin n := sortedFrom (fun a b => decide (s b < s a)) k

theorem listing_bijective {n : ℕ} (s : Fin n → EReal) : Function.Bijective (listing s) :=
  ⟨sortedFrom_injective _, sortedFrom_surjective _⟩

/-- In the sorted listing each entry stands before the later ones. -/
theorem listing_before {n : ℕ} (s : Fin n → EReal) (i j : Fin n) (h : i < j) : before s (listing s i) (listing s j) := by
  have hb : (fun a b => decide (s b < s a)) = fun a b => decide (code s b < code s a) := by
    funext a b
    exact decide_eq_decide.mpr (code_lt_iff s b a).symm
  have hp : (sortPositions n fun a b => decide (code s b < code s a)).Pairwise (PlanTiles.Lex (code s) (· < ·)) :=
    PlanTiles.pairwise_stableSort_lex (code s) (· < ·) (List.finRange n) (List.pairwise_lt_finRange n)
  have hg := List.pairwise_iff_get.mp hp (i.cast (length_sortPositions n _).symm) (j.cast (length_sortPositions n _).symm) h
  unfold listing sortedFrom
  rw [hb]
  rcases hg with h' | h'
  · exact Or.inl ((code_lt_iff s _ _).mp h')
  · exact Or.inr ⟨(code_eq_iff s _ _).mp h'.1, h'.2⟩

attribute [local irreducible] sortedFrom in
/-- The dropped channels are the first 253 of the row's listing. -/
theorem dropped_at (s : FVec Ideal S64x768 .f32) (r : Fin 64) (k : Fin 253) :
    dropped (F := Ideal) s (Idealize.ShloMosaic.ix2 r k)
      = BitVec.ofNat 32 (listing (fun c : Fin 768 => s (Idealize.ShloMosaic.ix2 r c)) (k.castLE (by norm_num))).val := by
  have hB : ∀ x y : EReal, (FloatOps.cmpfTotal (F := Ideal) (φ := .f32) .gt x y == 1#1) = decide (y < x) := fun x y => by
    show (BitVec.ofBool (decide (y < x)) == 1#1) = decide (y < x)
    by_cases h : y < x <;> simp [h]
  have hJ : ∀ (J : S64x768.Idx) (a : Fin 768), J 0 = r → J.along (1 : Fin 2) a = Idealize.ShloMosaic.ix2 r a := by
    intro J a hJ
    funext q
    match q with
    | ⟨0, _⟩ => exact hJ
    | ⟨1, _⟩ => rfl
  unfold dropped Host.topK Host.sort2 listing
  simp only [hB]
  have hword : ∀ J : S64x768.Idx, J 0 = r → J 1 = (k.castLE (by norm_num) : Fin 768) →
      BitVec.ofNat 32 (sortedFrom (fun a b : Fin 768 => decide (s (J.along (1 : Fin 2) b) < s (J.along (1 : Fin 2) a))) (J 1)).val
        = BitVec.ofNat 32 (sortedFrom (fun a b : Fin 768 => decide (s (Idealize.ShloMosaic.ix2 r b) < s (Idealize.ShloMosaic.ix2 r a)))
            (k.castLE (by norm_num))).val := by
    intro J h0 h1
    have hp : (fun a b : Fin 768 => decide (s (J.along (1 : Fin 2) b) < s (J.along (1 : Fin 2) a)))
        = fun a b : Fin 768 => decide (s (Idealize.ShloMosaic.ix2 r b) < s (Idealize.ShloMosaic.ix2 r a)) := by
      funext a b
      rw [hJ J a h0, hJ J b h0]
    exact congrArg (BitVec.ofNat 32) (congrArg Fin.val (congr (congrArg sortedFrom hp) h1))
  rw [dif_pos (show 1 < 2 by norm_num)]
  simp only [dif_pos (show 1 < 2 by norm_num), extractStridedSlice, iotaInDim]
  exact hword (fun a => ⟨0 + (Idealize.ShloMosaic.ix2 r k a).val, Nat.lt_of_lt_of_le (Nat.add_lt_add_left (Fin.isLt _) _) (sliceFits_S64x768_S64x253.2 a)⟩)
    (Fin.ext (Nat.zero_add _)) (Fin.ext (Nat.zero_add _))

/-- Setting zeros into a fill of ones. -/
theorem zeros_at (word : ℕ → BitVec 32) (col n : ℕ) :
    ScatterToDense.GS word (fun _ => (0 : EReal)) 1 col n = if ∃ k < n, col = (word k).toNat then 0 else 1 := by
  induction n with
  | zero => rw [ScatterToDense.GS_zero, if_neg]; rintro ⟨k, hk, _⟩; omega
  | succ n ih =>
    rw [ScatterToDense.GS_succ, ih]
    by_cases h : col = (word n).toNat
    · rw [if_pos h, if_pos ⟨n, Nat.lt_succ_self n, h⟩]
    · rw [if_neg h]
      refine if_congr ⟨fun ⟨k, hk, e⟩ => ⟨k, by omega, e⟩, fun ⟨k, hk, e⟩ => ⟨k, ?_, e⟩⟩ rfl rfl
      rcases Nat.lt_succ_iff_lt_or_eq.mp hk with hk | rfl
      · exact hk
      · exact absurd e h

/-- The mask at a channel: zero when the channel is listed among the dropped ones. -/
theorem mask_at (d : IVec S64x253 32) (σ : Fin 64 → Fin 253 → Fin 768)
    (hd : ∀ r k, d (Idealize.ShloMosaic.ix2 r k) = BitVec.ofNat 32 (σ r k).val) (r : Fin 64) (c : Fin 768) :
    mask (F := Ideal) d (Idealize.ShloMosaic.ix2 r c) = if ∃ k, σ r k = c then (0 : EReal) else 1 := by
  have hσ : ∀ r k, (d (Idealize.ShloMosaic.ix2 r k)).toNat = (σ r k).val := fun r k => by
    rw [hd, WordCmp.toNat_ofNat_of_lt (lt_trans (σ r k).isLt (by norm_num))]
  unfold mask
  refine (ScatterToDense.scatter_eq_GS _ rfl rfl rfl (by norm_num) (by norm_num) _ _ _
    (fun i k => if h : k < 253 then d (Idealize.ShloMosaic.ix2 i ⟨k, h⟩) else 0#32) (fun _ _ => (0 : EReal)) ?_ ?_ ?_ r c).trans ?_
  rotate_left 3
  · have h1 : broadcastInDim S64x768 ![] bcast_S_S64x768 (constant (F := Ideal) S_ .f32 0x3F800000#32) (Idealize.ShloMosaic.ix2 r c) = (1 : EReal) := by
      pointwise
    refine (congrArg (fun f => ScatterToDense.GS _ (fun _ => (0 : EReal)) f c.val 253) h1).trans ?_
    rw [zeros_at]
    refine if_congr ⟨fun ⟨k, hk, e⟩ => ⟨⟨k, hk⟩, Fin.ext ?_⟩, fun ⟨k, e⟩ => ⟨k.val, k.isLt, ?_⟩⟩ rfl rfl
    · rw [dif_pos hk, hσ] at e
      exact e.symm
    · rw [dif_pos k.isLt, hσ, e]
  · intro i k
    refine Eq.trans (b := Scalar.select (IntOp.cmpi .slt (BitVec.ofNat 32 i.val) 0#32) (IntOp.addi (BitVec.ofNat 32 i.val) 64#32) (BitVec.ofNat 32 i.val)) ?_ ?_
    · pointwise
    · exact Routing.wrap_of_lt _ _ (by rw [WordCmp.toNat_ofNat_of_lt (lt_trans i.isLt (by norm_num))]; exact lt_trans i.isLt (by norm_num))
  · intro i k
    refine Eq.trans (b := Scalar.select (IntOp.cmpi .slt (d (Idealize.ShloMosaic.ix2 i k)) 0#32) (IntOp.addi (d (Idealize.ShloMosaic.ix2 i k)) 768#32) (d (Idealize.ShloMosaic.ix2 i k))) ?_ ?_
    · pointwise
    · rw [Routing.wrap_of_lt _ _ (by rw [hσ]; exact lt_trans (σ i k).isLt (by norm_num)), dif_pos k.isLt]
  · intro i k
    pointwise

/-- The mask's entry: zero at the 253 channels that stand first, one elsewhere. -/
theorem mask_rank (s : FVec Ideal S64x768 .f32) (r : Fin 64) (c : Fin 768) :
    mask (F := Ideal) (dropped s) (Idealize.ShloMosaic.ix2 r c)
      = if rank (fun c : Fin 768 => s (Idealize.ShloMosaic.ix2 r c)) c < 253 then (0 : EReal) else 1 := by
  rw [mask_at (dropped s) (fun r k => listing (fun c : Fin 768 => s (Idealize.ShloMosaic.ix2 r c)) (k.castLE (by norm_num))) (dropped_at s) r c]
  refine if_congr ?_ rfl rfl
  rw [← listed_iff _ _ (listing_bijective _) (listing_before _) 253 c]
  exact ⟨fun ⟨k, e⟩ => ⟨k.castLE (by norm_num), k.isLt, e⟩, fun ⟨k, hk, e⟩ => ⟨⟨k.val, hk⟩, e⟩⟩

end Cert.ReferenceIdeal.Rows

end
-- ==== Proof.Valid.lean ====
/- What the precondition says of the arguments: every label names a class, and no pixel's spread is zero. -/
module

public import proofs.«01_k».proof.Pre_valid_inputs
public import proofs.«01_k».proof.Proof.RefRows
public import Idealize.ShloMosaic.Lib.ReduceAll

@[expose] public section

set_option maxRecDepth 16384

noncomputable section

namespace Cert.Valid

open Idealize.ShloMosaic Idealize.ShloMosaic.TcCoe
open Cert.ReferenceIdeal Cert.ReferenceIdeal.Gen Cert.ReferenceIdeal.Rows

/-- The predicate's side conditions. -/
theorem facts : Cert.Pre_valid_inputs.Facts where
  bcast_S_S64 := bcast_S_S64
  bcast_S64_S64x1_0 := bcast_S64_S64x1_0
  bcast_S64x768_S64x768x1x1_0_1 := bcast_S64x768_S64x768x1x1_0_1
  bcast_S64x768x1x1_S64x768x24x24_0_1_2_3 := bcast_S64x768x1x1_S64x768x24x24_0_1_2_3
  reducesTo_S64x768x24x24_S64x24x24_d1 := reducesTo_S64x768x24x24_S64x24x24_d1
  h_S_ := h_S_
  reducesTo_S64_S_d0 := by decide
  bcast_S_S64x24x24 := by decide
  reducesTo_S64x24x24_S_d0_1_2 := by decide
  gather_S4x768_S64x1_S64x768_1_0_n_n_0_1_1768_wf := gather_S4x768_S64x1_S64x768_1_0_n_n_0_1_1768_wf

/-- The test of the labels, label by label. -/
def named (l : IVec S64 32) : IVec S64 1 :=
  andi (cmpi .sge l (broadcastInDim S64 ![] bcast_S_S64 (constantI S_ 32 0#32))) (cmpi .slt l (broadcastInDim S64 ![] bcast_S_S64 (constantI S_ 32 4#32)))

/-- The test of the spreads, pixel by pixel. -/
def spread (hi lo : FVec Ideal S64x24x24 .f32) : IVec S64x24x24 1 :=
  cmpf .une (subf hi lo) (broadcastInDim S64x24x24 ![] facts.bcast_S_S64x24x24 (constant (F := Ideal) S_ .f32 0x00000000#32))

theorem fn_eq (x : FVec Ideal S64x768x24x24 .f32) (l : IVec S64 32) (w : FVec Ideal S4x768 .f32) (b : FVec Ideal S4 .f32) :
    @Cert.Pre_valid_inputs.fn facts Ideal _ x l w b
      = andi (Host.reduce IntOp.andi (named l) (constantI S_ 1 1#1) facts.reducesTo_S64_S_d0 h_S_)
          (Host.reduce IntOp.andi (spread (greatest (weighted x (picked l w))) (least (weighted x (picked l w)))) (constantI S_ 1 1#1)
            facts.reducesTo_S64x24x24_S_d0_1_2 h_S_) := rfl

theorem named_at (l : IVec S64 32) (r : Fin 64) : named l (Idealize.ShloMosaic.ix1 r)
    = IntOp.andi (IntOp.cmpi .sge (l (Idealize.ShloMosaic.ix1 r)) 0#32) (IntOp.cmpi .slt (l (Idealize.ShloMosaic.ix1 r)) 4#32) := by
  pointwise [named]

theorem spread_at (hi lo : FVec Ideal S64x24x24 .f32) (r : Fin 64) (h w : Fin 24) : spread hi lo (Idealize.ShloMosaic.ix3 r h w)
    = Ideal.cmp .une (hi (Idealize.ShloMosaic.ix3 r h w) - lo (Idealize.ShloMosaic.ix3 r h w)) 0 := by
  pointwise [spread]

/-- A word between 0 and 3. -/
theorem word_class (v : BitVec 32) (h0 : (0#32).toInt ≤ v.toInt) (h4 : v.toInt < (4#32).toInt) : ∃ k : Fin 4, v = BitVec.ofNat 32 k.val := by
  have e0 : (0#32).toInt = 0 := by decide
  have e4 : (4#32).toInt = 4 := by decide
  have hv := v.isLt
  rw [e0] at h0
  rw [e4] at h4
  rw [BitVec.toInt_eq_toNat_cond] at h0 h4
  have : v.toNat < 4 := by split_ifs at h0 h4 <;> omega
  exact ⟨⟨v.toNat, this⟩, (BitVec.eq_of_toNat_eq (by rw [WordCmp.toNat_ofNat_of_lt (lt_trans this (by norm_num))]))⟩

theorem holds (x : FVec Ideal S64x768x24x24 .f32) (l : IVec S64 32) (w : FVec Ideal S4x768 .f32) (b : FVec Ideal S4 .f32)
    (h : @Cert.Pre_valid_inputs.fn facts Ideal _ x l w b = fun _ => 1#1) :
    (∀ r : Fin 64, ∃ k : Fin 4, l (Idealize.ShloMosaic.ix1 r) = BitVec.ofNat 32 k.val)
      ∧ ∀ (r : Fin 64) (p q : Fin 24), greatest (F := Ideal) (weighted x (picked l w)) (Idealize.ShloMosaic.ix3 r p q)
          - least (F := Ideal) (weighted x (picked l w)) (Idealize.ShloMosaic.ix3 r p q) ≠ 0 := by
  haveI : Subsingleton S_.Idx := ⟨fun _ _ => funext fun i => i.elim0⟩
  rw [fn_eq] at h
  obtain ⟨h1, h2⟩ := IntOp.andi_eq_one.mp (congrFun h fun i => i.elim0)
  constructor
  · intro r
    have e := Host.reduce_andi_all _ _ _ _ _ h1 (Idealize.ShloMosaic.ix1 r)
    rw [named_at] at e
    obtain ⟨e0, e4⟩ := IntOp.andi_eq_one.mp e
    exact word_class _ (IntOp.cmpi_sge.mp e0) (IntOp.cmpi_slt.mp e4)
  · intro r p q hz
    have e := Host.reduce_andi_all _ _ _ _ _ h2 (Idealize.ShloMosaic.ix3 r p q)
    rw [spread_at, hz] at e
    simp [Ideal.cmp] at e

end Cert.Valid

end
-- ==== Proof.Radix.lean ====
/- The mask in steps: the threshold key of each row is found bit by bit from the top, keeping a bit when at least 253 keys
   reach the candidate; then a channel is dropped when its key is above the threshold, or equal to it and among the first
   equal ones. -/
module

public import proofs.«01_k».proof.Proof.Fns

@[expose] public section

set_option maxRecDepth 16384

noncomputable section

namespace Cert.KernelIdeal.Launch

open Idealize.ShloMosaic Idealize.ShloMosaic.TcCoe Idealize.ShloMosaic.ValueIdx
open Cert.KernelIdeal.Gen

variable {F : FTy → Type} [FloatOps F]

/-- The number of marked channels of each row, as a float. -/
def cnt (p : IVec S64x768 1) : FVec F S64x1 .f32 :=
  matmul dot_S64x768_S768x1_S64x1_1_0_0_1_n_n none (sitofp .f32 (extui 32 p natLt_1_32)) (k0_pay4 (F := F)) (constant S64x1 .f32 0x00000000#32)

/-- The channels whose key reaches the row's candidate. -/
def reach (key : IVec S64x768 32) (T : IVec S64x1 32) : IVec S64x768 1 :=
  cmpi .sge key (broadcastTo S64x768 T broadcasts_S64x1_S64x768)

/-- Whether at least 253 channels are marked. -/
def enough (p : IVec S64x768 1) : IVec S64x1 1 :=
  cmpf .oge (cnt (F := F) p) (broadcast S64x1 (Scalar.ofBits .f32 0x437D0000#32))

/-- One bit of the threshold: added when enough keys reach the candidate with it. -/
def bstep (key : IVec S64x768 32) (T : IVec S64x1 32) (b : BitVec 32) : IVec S64x1 32 :=
  select (enough (F := F) (reach key (addi T (broadcast S64x1 b)))) (addi T (broadcast S64x1 b)) T

/-- The sign of the threshold. -/
def sign (key : IVec S64x768 32) : IVec S64x1 32 :=
  select (enough (F := F) (reach key (broadcast S64x1 0#32))) (broadcast S64x1 0#32) (broadcast S64x1 2147483648#32)

/-- The bits tried below the sign, highest first. -/
def bits : List (BitVec 32) :=
  [1073741824#32, 536870912#32, 268435456#32, 134217728#32, 67108864#32, 33554432#32, 16777216#32, 8388608#32, 4194304#32,
   2097152#32, 1048576#32, 524288#32, 262144#32, 131072#32, 65536#32, 32768#32, 16384#32, 8192#32, 4096#32, 2048#32, 1024#32,
   512#32, 256#32, 128#32, 64#32, 32#32, 16#32, 8#32, 4#32, 2#32, 1#32]

/-- The threshold key of each row. -/
def thr (key : IVec S64x768 32) : IVec S64x1 32 := bits.foldl (bstep (F := F) key) (sign (F := F) key)

/-- The mask from the keys and the threshold. -/
def fin (key : IVec S64x768 32) (T : IVec S64x1 32) : FVec F S64x768 .f32 :=
  let gt : IVec S64x768 1 := cmpi .sgt key (broadcastTo S64x768 T broadcasts_S64x1_S64x768)
  let eq : IVec S64x768 1 := cmpi .eq key (broadcastTo S64x768 T broadcasts_S64x1_S64x768)
  let need : FVec F S64x1 .f32 := subf (broadcast S64x1 (Scalar.ofBits .f32 0x437D0000#32)) (cnt gt)
  let tri : FVec F S768x768 .f32 := sitofp .f32 (extui 32 (cmpi .sle (iota .tc S768x768 32 [0] iota_S768x768_d0_w32) (iota .tc S768x768 32 [1] iota_S768x768_d1_w32)) natLt_1_32)
  let pre : FVec F S64x768 .f32 := matmul dot_S64x768_S768x768_S64x768_1_0_0_1_n_n none (sitofp .f32 (extui 32 eq natLt_1_32)) tri (constant S64x768 .f32 0x00000000#32)
  select (ori gt (andi eq (cmpf .ole pre (broadcastTo S64x768 need broadcasts_S64x1_S64x768))))
    (broadcast S64x768 (Scalar.ofBits .f32 0x00000000#32)) (broadcast S64x768 (Scalar.ofBits .f32 0x3F800000#32))

variable (k : IVec S64x768 32) (T : IVec S64x1 32)

theorem pay5_eq (S : Vec F S64x1x768 .f32) :
    k0_pay5 S = bstep (F := F) (k0_pay3 S) (sign (F := F) (k0_pay3 S)) 1073741824#32 := rfl

/-- A candidate before its bit is decided. -/
theorem pay6_eq (S : Vec F S64x1x768 .f32) : k0_pay6 S = addi (k0_pay5 S) (broadcast S64x1 536870912#32) := rfl

theorem pay7_eq (S : Vec F S64x1x768 .f32) : k0_pay7 S = cnt (F := F) (reach (k0_pay3 S) (k0_pay6 S)) := rfl

theorem pay9_eq :
    k0_pay9 (F := F) k k0_pay4 T (addi T (broadcast S64x1 536870912#32)) (cnt (reach k (addi T (broadcast S64x1 536870912#32)))) k0_pay8
      = [536870912#32, 268435456#32, 134217728#32, 67108864#32, 33554432#32].foldl (bstep (F := F) k) T := rfl

theorem pay10_eq (A : IVec S64x1 32) (B C : FVec F S64x1 .f32) :
    k0_pay10 (F := F) k k0_pay4 T A B C = addi (k0_pay9 k k0_pay4 T A B C) (broadcast S64x1 16777216#32) := rfl

theorem pay11_eq (A : IVec S64x1 32) (B C : FVec F S64x1 .f32) :
    k0_pay11 (F := F) k k0_pay4 T A B C = extui 32 (reach k (k0_pay10 (F := F) k k0_pay4 T A B C)) natLt_1_32 := rfl

theorem pay12_eq :
    k0_pay12 (F := F) k k0_pay4 T (addi T (broadcast S64x1 16777216#32)) (extui 32 (reach k (addi T (broadcast S64x1 16777216#32))) natLt_1_32)
      = [16777216#32, 8388608#32, 4194304#32, 2097152#32, 1048576#32].foldl (bstep (F := F) k) T := rfl

theorem pay13_eq :
    k0_pay13 (F := F) k k0_pay4 T 524288#32
      = [524288#32, 262144#32, 131072#32, 65536#32].foldl (bstep (F := F) k) T := rfl

theorem pay14_eq :
    k0_pay14 (F := F) k k0_pay4 T 524288#32 = addi (k0_pay13 (F := F) k k0_pay4 T 524288#32) (broadcast S64x1 32768#32) := rfl

theorem pay15_eq :
    k0_pay15 (F := F) k k0_pay4 T 524288#32 = cnt (reach k (k0_pay14 (F := F) k k0_pay4 T 524288#32)) := rfl

theorem pay16_eq :
    k0_pay16 (F := F) k k0_pay4 T (addi T (broadcast S64x1 32768#32)) (cnt (reach k (addi T (broadcast S64x1 32768#32))))
      = [32768#32, 16384#32, 8192#32, 4096#32, 2048#32].foldl (bstep (F := F) k) T := rfl

theorem pay17_eq (A : IVec S64x1 32) (B : FVec F S64x1 .f32) :
    k0_pay17 (F := F) k k0_pay4 T A B = addi (k0_pay16 (F := F) k k0_pay4 T A B) (broadcast S64x1 1024#32) := rfl

theorem pay18_eq (A : IVec S64x1 32) (B : FVec F S64x1 .f32) :
    k0_pay18 (F := F) k k0_pay4 T A B = broadcastTo S64x768 (k0_pay17 (F := F) k k0_pay4 T A B) broadcasts_S64x1_S64x768 := rfl

theorem pay19_eq :
    k0_pay19 (F := F) k k0_pay4 T (addi T (broadcast S64x1 1024#32)) (broadcastTo S64x768 (addi T (broadcast S64x1 1024#32)) broadcasts_S64x1_S64x768)
      = [1024#32, 512#32, 256#32, 128#32].foldl (bstep (F := F) k) T := rfl

theorem pay20_eq (A : IVec S64x1 32) (B : IVec S64x768 32) :
    k0_pay20 (F := F) k k0_pay4 T A B = addi (k0_pay19 (F := F) k k0_pay4 T A B) (broadcast S64x1 64#32) := rfl

theorem pay21_eq (A : IVec S64x1 32) (B : IVec S64x768 32) :
    k0_pay21 (F := F) k k0_pay4 T A B = enough (F := F) (reach k (k0_pay20 (F := F) k k0_pay4 T A B)) := rfl

theorem pay22_eq :
    k0_pay22 (F := F) k k0_pay4 T (addi T (broadcast S64x1 64#32)) (enough (F := F) (reach k (addi T (broadcast S64x1 64#32))))
      = [64#32, 32#32, 16#32, 8#32, 4#32].foldl (bstep (F := F) k) T := rfl

theorem pay23_eq (A : IVec S64x1 32) (B : IVec S64x1 1) :
    k0_pay23 (F := F) k k0_pay4 T A B = addi (k0_pay22 (F := F) k k0_pay4 T A B) (broadcast S64x1 2#32) := rfl

theorem pay24_eq (A : IVec S64x1 32) (B : IVec S64x1 1) :
    k0_pay24 (F := F) k k0_pay4 T A B = sitofp .f32 (extui 32 (reach k (k0_pay23 (F := F) k k0_pay4 T A B)) natLt_1_32) := rfl

theorem pay2_eq :
    k0_pay2 (F := F) k k0_pay4 T (addi T (broadcast S64x1 2#32)) (sitofp .f32 (extui 32 (reach k (addi T (broadcast S64x1 2#32))) natLt_1_32))
      = fin k ([2#32, 1#32].foldl (bstep (F := F) k) T) := rfl

/-- The mask from the threshold before bit 2^6, that candidate and its test. -/
def partE (T A : IVec S64x1 32) (B : IVec S64x1 1) : FVec F S64x768 .f32 :=
  k0_pay2 k k0_pay4 (k0_pay22 (F := F) k k0_pay4 T A B) (k0_pay23 (F := F) k k0_pay4 T A B) (k0_pay24 k k0_pay4 T A B)

/-- The mask from the threshold before bit 2^10. -/
def partD (T A : IVec S64x1 32) (B : IVec S64x768 32) : FVec F S64x768 .f32 :=
  partE k (k0_pay19 (F := F) k k0_pay4 T A B) (k0_pay20 (F := F) k k0_pay4 T A B) (k0_pay21 (F := F) k k0_pay4 T A B)

/-- The mask from the threshold before bit 2^15. -/
def partC (T A : IVec S64x1 32) (B : FVec F S64x1 .f32) : FVec F S64x768 .f32 :=
  partD k (k0_pay16 k k0_pay4 T A B) (k0_pay17 k k0_pay4 T A B) (k0_pay18 k k0_pay4 T A B)

/-- The mask from the threshold before bit 2^19. -/
def partB : FVec F S64x768 .f32 :=
  partC k (k0_pay13 (F := F) k k0_pay4 T 524288#32) (k0_pay14 (F := F) k k0_pay4 T 524288#32) (k0_pay15 k k0_pay4 T 524288#32)

theorem partE_eq : partE (F := F) k T (addi T (broadcast S64x1 64#32)) (enough (F := F) (reach k (addi T (broadcast S64x1 64#32))))
    = fin k ([64#32, 32#32, 16#32, 8#32, 4#32, 2#32, 1#32].foldl (bstep (F := F) k) T) := by
  unfold partE
  rw [pay24_eq, pay23_eq, pay22_eq, pay2_eq, ← List.foldl_append]
  exact congrArg (fun l => fin k (List.foldl (bstep (F := F) k) T l)) (by rfl)

theorem partD_eq : partD (F := F) k T (addi T (broadcast S64x1 1024#32)) (broadcastTo S64x768 (addi T (broadcast S64x1 1024#32)) broadcasts_S64x1_S64x768)
    = fin k ([1024#32, 512#32, 256#32, 128#32, 64#32, 32#32, 16#32, 8#32, 4#32, 2#32, 1#32].foldl (bstep (F := F) k) T) := by
  unfold partD
  rw [pay21_eq, pay20_eq, pay19_eq, partE_eq, ← List.foldl_append]
  exact congrArg (fun l => fin k (List.foldl (bstep (F := F) k) T l)) (by rfl)

theorem partC_eq : partC (F := F) k T (addi T (broadcast S64x1 32768#32)) (cnt (reach k (addi T (broadcast S64x1 32768#32))))
    = fin k ([32768#32, 16384#32, 8192#32, 4096#32, 2048#32, 1024#32, 512#32, 256#32, 128#32, 64#32, 32#32, 16#32, 8#32, 4#32,
        2#32, 1#32].foldl (bstep (F := F) k) T) := by
  unfold partC
  rw [pay18_eq, pay17_eq, pay16_eq, partD_eq, ← List.foldl_append]
  exact congrArg (fun l => fin k (List.foldl (bstep (F := F) k) T l)) (by rfl)

theorem partB_eq : partB (F := F) k T
    = fin k ([524288#32, 262144#32, 131072#32, 65536#32, 32768#32, 16384#32, 8192#32, 4096#32, 2048#32, 1024#32, 512#32, 256#32,
        128#32, 64#32, 32#32, 16#32, 8#32, 4#32, 2#32, 1#32].foldl (bstep (F := F) k) T) := by
  unfold partB
  rw [pay15_eq, pay14_eq, pay13_eq, partC_eq, ← List.foldl_append]
  exact congrArg (fun l => fin k (List.foldl (bstep (F := F) k) T l)) (by rfl)

/-- The mask from the threshold before bit 2^24. -/
def partA (T A : IVec S64x1 32) (B : IVec S64x768 32) : FVec F S64x768 .f32 :=
  partB k (k0_pay12 (F := F) k k0_pay4 T A B)

theorem partA_eq : partA (F := F) k T (addi T (broadcast S64x1 16777216#32)) (extui 32 (reach k (addi T (broadcast S64x1 16777216#32))) natLt_1_32)
    = fin k ([16777216#32, 8388608#32, 4194304#32, 2097152#32, 1048576#32, 524288#32, 262144#32, 131072#32, 65536#32, 32768#32,
        16384#32, 8192#32, 4096#32, 2048#32, 1024#32, 512#32, 256#32, 128#32, 64#32, 32#32, 16#32, 8#32, 4#32, 2#32,
        1#32].foldl (bstep (F := F) k) T) := by
  unfold partA
  rw [pay12_eq, partB_eq, ← List.foldl_append]
  exact congrArg (fun l => fin k (List.foldl (bstep (F := F) k) T l)) (by rfl)

theorem maskOf_parts (S : Vec F S64x1x768 .f32) : maskOf S
    = partA (F := F) (k0_pay3 S) (k0_pay9 (k0_pay3 S) k0_pay4 (k0_pay5 S) (k0_pay6 S) (k0_pay7 S) k0_pay8)
        (k0_pay10 (k0_pay3 S) k0_pay4 (k0_pay5 S) (k0_pay6 S) (k0_pay7 S) k0_pay8)
        (k0_pay11 (k0_pay3 S) k0_pay4 (k0_pay5 S) (k0_pay6 S) (k0_pay7 S) k0_pay8) := rfl

/-- The kernel's mask is the threshold search followed by the final comparison. -/
theorem maskOf_eq (S : Vec F S64x1x768 .f32) : maskOf S = fin (k0_pay3 S) (thr (F := F) (k0_pay3 S)) := by
  rw [maskOf_parts, pay11_eq, pay10_eq, pay7_eq, pay6_eq, pay9_eq, partA_eq, pay5_eq, ← List.foldl_append, ← List.foldl_cons]
  exact congrArg (fun l => fin (k0_pay3 S) (List.foldl (bstep (F := F) (k0_pay3 S)) (sign (F := F) (k0_pay3 S)) l)) (by rfl)

end Cert.KernelIdeal.Launch

end
-- ==== Proof.Mask.lean ====
/- The mask over the extended reals: a channel's entry is zero exactly when fewer than 253 channels stand before it, by greater
   score or by equal score and lower index. -/
module

public import proofs.«01_k».proof.Proof.Radix
public import proofs.«01_k».proof.Proof.Rank
public import Idealize.ShloMosaic.Lib.Pointwise
public import Idealize.ShloMosaic.Lib.IndicatorCount
public import Idealize.ShloMosaic.Lib.IdealHost

@[expose] public section

set_option maxRecDepth 16384

noncomputable section

namespace Cert.KernelIdeal.Launch

open Idealize.ShloMosaic Idealize.ShloMosaic.TcCoe
open Cert.KernelIdeal.Gen Cert.Rank Idealize.ShloMosaic.WordCmp

theorem word_253 : Ideal.ofBits .f32 1132265472#32 = ((253 : ℝ) : EReal) := by
  simp [Ideal.ofBits, Ideal.ieee, -EReal.coe_mul]
  norm_num

theorem coe_sum {ι : Type} (S : Finset ι) (f : ι → ℝ) : (∑ x ∈ S, ((f x : ℝ) : EReal)) = ((∑ x ∈ S, f x : ℝ) : EReal) := by
  classical
  induction S using Finset.induction_on with
  | empty => simp
  | insert a S ha ih => rw [Finset.sum_insert ha, Finset.sum_insert ha, ih, EReal.coe_add]

/-- A mark, widened and read as a float. -/
theorem mark_value (p : BitVec 1) : FloatOps.sitofp (F := Ideal) FTy.f32 (BitVec.setWidth 32 p) = (((if p = 1#1 then 1 else 0 : ℝ)) : EReal) := by
  rcases (by decide : ∀ q : BitVec 1, q = 0#1 ∨ q = 1#1) p with h | h <;> subst h
  · show (((BitVec.setWidth 32 0#1).toInt : ℝ) : EReal) = _
    simp
  · show (((BitVec.setWidth 32 1#1).toInt : ℝ) : EReal) = _
    simp

/-- A sum of marks is their number. -/
theorem sum_marks {ι : Type} [Fintype ι] (p : ι → BitVec 1) :
    (∑ c : ι, FloatOps.sitofp (F := Ideal) FTy.f32 (BitVec.setWidth 32 (p c)))
      = ((((Finset.univ.filter fun c => p c = 1#1).card : ℕ) : ℝ) : EReal) := by
  simp only [mark_value, coe_sum, Finset.sum_boole]

theorem cnt_at (p : IVec S64x768 1) (r : Fin 64) :
    cnt (F := Ideal) p (Idealize.ShloMosaic.ix2 r (0 : Fin 1))
      = ((((Finset.univ.filter fun c : Fin 768 => p (Idealize.ShloMosaic.ix2 r c) = 1#1).card : ℕ) : ℝ) : EReal) := by
  rw [← sum_marks]
  pointwise [cnt, k0_pay4]

theorem enough_at (p : IVec S64x768 1) (r : Fin 64) :
    enough (F := Ideal) p (Idealize.ShloMosaic.ix2 r (0 : Fin 1))
      = BitVec.ofBool (decide (253 ≤ (Finset.univ.filter fun c : Fin 768 => p (Idealize.ShloMosaic.ix2 r c) = 1#1).card)) := by
  have h : enough (F := Ideal) p (Idealize.ShloMosaic.ix2 r (0 : Fin 1))
      = Ideal.cmp .oge (cnt (F := Ideal) p (Idealize.ShloMosaic.ix2 r (0 : Fin 1))) (Ideal.ofBits .f32 1132265472#32) := rfl
  rw [h, cnt_at, word_253]
  show BitVec.ofBool (decide (((253 : ℝ) : EReal) ≤ _)) = _
  exact congrArg BitVec.ofBool (decide_eq_decide.mpr (EReal.coe_le_coe_iff.trans (by exact_mod_cast Iff.rfl)))

/-- One row's step of the threshold. -/
def rowStep (key : IVec S64x768 32) (r : Fin 64) (t b : BitVec 32) : BitVec 32 :=
  Scalar.select (BitVec.ofBool (decide (253 ≤ (Finset.univ.filter fun c : Fin 768 =>
    IntOp.cmpi .sge (key (Idealize.ShloMosaic.ix2 r c)) (IntOp.addi t b) = 1#1).card))) (IntOp.addi t b) t

theorem bstep_at (key : IVec S64x768 32) (T : IVec S64x1 32) (b : BitVec 32) (r : Fin 64) :
    bstep (F := Ideal) key T b (Idealize.ShloMosaic.ix2 r (0 : Fin 1)) = rowStep key r (T (Idealize.ShloMosaic.ix2 r (0 : Fin 1))) b := by
  have h : bstep (F := Ideal) key T b (Idealize.ShloMosaic.ix2 r (0 : Fin 1))
      = Scalar.select (enough (F := Ideal) (reach key (addi T (broadcast S64x1 b))) (Idealize.ShloMosaic.ix2 r (0 : Fin 1)))
          (IntOp.addi (T (Idealize.ShloMosaic.ix2 r (0 : Fin 1))) b) (T (Idealize.ShloMosaic.ix2 r (0 : Fin 1))) := rfl
  rw [h, enough_at]
  have hr : ∀ c : Fin 768, reach key (addi T (broadcast S64x1 b)) (Idealize.ShloMosaic.ix2 r c)
      = IntOp.cmpi .sge (key (Idealize.ShloMosaic.ix2 r c)) (IntOp.addi (T (Idealize.ShloMosaic.ix2 r (0 : Fin 1))) b) := by
    intro c
    pointwise [reach]
  simp only [hr]
  rfl

theorem sign_at (key : IVec S64x768 32) (r : Fin 64) (k : Fin 768 → ℕ) (hk : ∀ c, k c < 2 ^ 31)
    (hkey : ∀ c, key (Idealize.ShloMosaic.ix2 r c) = BitVec.ofNat 32 (k c)) :
    sign (F := Ideal) key (Idealize.ShloMosaic.ix2 r (0 : Fin 1)) = BitVec.ofNat 32 0 := by
  have h : sign (F := Ideal) key (Idealize.ShloMosaic.ix2 r (0 : Fin 1))
      = Scalar.select (enough (F := Ideal) (reach key (broadcast S64x1 0#32)) (Idealize.ShloMosaic.ix2 r (0 : Fin 1))) 0#32 2147483648#32 := rfl
  have hr : ∀ c : Fin 768, reach key (broadcast S64x1 0#32) (Idealize.ShloMosaic.ix2 r c) = 1#1 := by
    intro c
    have h1 : reach key (broadcast S64x1 0#32) (Idealize.ShloMosaic.ix2 r c)
        = IntOp.cmpi .sge (key (Idealize.ShloMosaic.ix2 r c)) (BitVec.ofNat 32 0) := by
      pointwise [reach]
    rw [h1, hkey, cmpi_sge_ofNat (hk c) (by norm_num)]
    simp
  rw [h, enough_at]
  simp only [hr]
  simp [select_one]

variable (key : IVec S64x768 32) (r : Fin 64) (k : Fin 768 → ℕ) (hk : ∀ c, k c < 2 ^ 31)
  (hkey : ∀ c, key (Idealize.ShloMosaic.ix2 r c) = BitVec.ofNat 32 (k c))

include hk hkey in
theorem rowStep_nat (t b : ℕ) (h : t + b < 2 ^ 31) :
    rowStep key r (BitVec.ofNat 32 t) (BitVec.ofNat 32 b) = if 253 ≤ reached k (t + b) then BitVec.ofNat 32 (t + b) else BitVec.ofNat 32 t := by
  unfold rowStep reached
  have he : ∀ c : Fin 768, (IntOp.cmpi .sge (key (Idealize.ShloMosaic.ix2 r c)) (BitVec.ofNat 32 (t + b)) = 1#1) ↔ t + b ≤ k c := by
    intro c
    rw [hkey, cmpi_sge_ofNat_eq_one_iff (hk c) h]
  simp only [addi_ofNat, he, select_decide]

include hk hkey in
/-- The threshold is the largest number that at least 253 keys reach. -/
theorem thr_at : ∃ T : ℕ, T < 2 ^ 31 ∧ 253 ≤ reached k T ∧ ¬ 253 ≤ reached k (T + 1)
    ∧ thr (F := Ideal) key (Idealize.ShloMosaic.ix2 r (0 : Fin 1)) = BitVec.ofNat 32 T := by
  have hall : reached k 0 = 768 := by simp [reached]
  have hnone : reached k (0 + 2 ^ 31) = 0 := by
    unfold reached
    rw [Finset.card_eq_zero, Finset.filter_eq_empty_iff]
    intro c _
    have := hk c
    omega
  obtain ⟨T, h1, h2, h3, h4⟩ := fold_bits (fun t => 253 ≤ reached k t) (rowStep key r)
    (fun t b h hp => by rw [rowStep_nat key r k hk hkey t b h, if_pos hp])
    (fun t b h hp => by rw [rowStep_nat key r k hk hkey t b h, if_neg hp]) 31 0 (by norm_num)
    (by rw [hall]; norm_num) (by rw [hnone]; norm_num)
  refine ⟨T, h1, h2, h3, ?_⟩
  rw [← h4, ← sign_at key r k hk hkey]
  have hb : (bitsBelow 31).map (BitVec.ofNat 32) = bits := by decide
  rw [hb]
  exact (List.foldl_hom (fun T : IVec S64x1 32 => T (Idealize.ShloMosaic.ix2 r (0 : Fin 1)))
    (fun x y => (bstep_at key x y r).symm)).symm

include hk hkey in
/-- The mask's entry from the threshold's properties. -/
theorem fin_at (T : IVec S64x1 32) (t : ℕ) (ht : t < 2 ^ 31) (hT : T (Idealize.ShloMosaic.ix2 r (0 : Fin 1)) = BitVec.ofNat 32 t)
    (hP : 253 ≤ reached k t) (hN : ¬ 253 ≤ reached k (t + 1)) (c : Fin 768) :
    fin (F := Ideal) key T (Idealize.ShloMosaic.ix2 r c) = if rank k c < 253 then (0 : EReal) else 1 := by
  have h : fin (F := Ideal) key T (Idealize.ShloMosaic.ix2 r c)
      = Scalar.select (IntOp.ori (IntOp.cmpi .sgt (key (Idealize.ShloMosaic.ix2 r c)) (T (Idealize.ShloMosaic.ix2 r (0 : Fin 1))))
          (IntOp.andi (IntOp.cmpi .eq (key (Idealize.ShloMosaic.ix2 r c)) (T (Idealize.ShloMosaic.ix2 r (0 : Fin 1))))
            (BitVec.ofBool (decide ((∑ x : Fin 768,
              FloatOps.sitofp (F := Ideal) FTy.f32 (BitVec.setWidth 32 (IntOp.cmpi .eq (key (Idealize.ShloMosaic.ix2 r x)) (T (Idealize.ShloMosaic.ix2 r (0 : Fin 1)))))
                * FloatOps.sitofp (F := Ideal) FTy.f32 (BitVec.setWidth 32 (IntOp.cmpi .sle (BitVec.ofNat 32 x.val) (BitVec.ofNat 32 c.val))))
              ≤ Ideal.ofBits .f32 1132265472#32
                - cnt (F := Ideal) (cmpi .sgt key (broadcastTo S64x768 T broadcasts_S64x1_S64x768)) (Idealize.ShloMosaic.ix2 r (0 : Fin 1)))))))
          (0 : EReal) 1 := by
    pointwise [fin]
  have hg : ∀ x : Fin 768, cmpi .sgt key (broadcastTo S64x768 T broadcasts_S64x1_S64x768) (Idealize.ShloMosaic.ix2 r x)
      = IntOp.cmpi .sgt (key (Idealize.ShloMosaic.ix2 r x)) (T (Idealize.ShloMosaic.ix2 r (0 : Fin 1))) := by
    intro x
    pointwise
  have hx : ∀ x : Fin 768, x.val < 2 ^ 31 := fun x => lt_trans x.isLt (by norm_num)
  rw [h, cnt_at, word_253]
  simp only [hg, hT, hkey, mark_value, cmpi_sgt_ofNat_eq_one_iff (w := 32) (hk _) ht,
    cmpi_eq_ofNat_eq_one_iff (w := 32) (lt_trans (hk _) (by norm_num)) (lt_trans ht (by norm_num)),
    cmpi_sle_ofNat_eq_one_iff (w := 32) (hx _) (hx _)]
  have hs : (∑ x : Fin 768, (((if k x = t then 1 else 0 : ℝ)) : EReal) * (((if x.val ≤ c.val then 1 else 0 : ℝ)) : EReal))
      = ((((Finset.univ.filter fun x : Fin 768 => k x = t ∧ x ≤ c).card : ℕ) : ℝ) : EReal) := by
    simp only [← EReal.coe_mul, coe_sum]
    rw [← Finset.sum_boole]
    refine congrArg _ (Finset.sum_congr rfl fun x _ => ?_)
    by_cases h1 : k x = t <;> by_cases h2 : x ≤ c <;> simp [h1, h2]
  rw [hs, cmpi_sgt_ofNat (w := 32) (hk c) ht, cmpi_eq_ofNat (w := 32) (lt_trans (hk c) (by norm_num)) (lt_trans ht (by norm_num)),
    andi_ofBool, ori_ofBool, select_ofBool]
  refine if_congr ?_ rfl rfl
  rw [← above_iff k 253 t hP hN c, Bool.or_eq_true, Bool.and_eq_true, decide_eq_true_iff, decide_eq_true_iff, decide_eq_true_iff,
    ← EReal.coe_sub, EReal.coe_le_coe_iff, le_sub_iff_add_le]
  refine or_congr_right (and_congr_right fun _ => ?_)
  norm_cast

/-- The key of a channel is the number of channels of the row with a smaller score. -/
theorem key_at (S : Vec Ideal S64x1x768 .f32) (r : Fin 64) (c : Fin 768) :
    k0_pay3 (F := Ideal) S (Idealize.ShloMosaic.ix2 r c)
      = BitVec.ofNat 32 (code (fun x : Fin 768 => S (Idealize.ShloMosaic.ix3 r (0 : Fin 1) x)) c) := by
  have h : k0_pay3 (F := Ideal) S (Idealize.ShloMosaic.ix2 r c)
      = (fun w => IntOp.xori w (IntOp.andi (IntOp.shrsi ArithUnit.vector w 31#32) 2147483647#32))
          (Finset.fold IntOp.addi 0#32 (fun x : Fin 768 => BitVec.setWidth 32 (BitVec.ofBool (decide
            (S (Idealize.ShloMosaic.ix3 r (0 : Fin 1) x) < S (Idealize.ShloMosaic.ix3 r (0 : Fin 1) c))))) Finset.univ) := by
    pointwise [k0_pay3]
  rw [h, IndicatorCount.fold_addi_setWidth_eq_card]
  simp only [ofBool_decide_eq_one_iff]
  have hc : code (fun x : Fin 768 => S (Idealize.ShloMosaic.ix3 r (0 : Fin 1) x)) c < 1024 := lt_of_le_of_lt (code_le _ _) (by norm_num)
  unfold code at hc ⊢
  generalize (Finset.univ.filter fun x : Fin 768 => S (Idealize.ShloMosaic.ix3 r (0 : Fin 1) x) < S (Idealize.ShloMosaic.ix3 r (0 : Fin 1) c)).card = n at hc ⊢
  have hn : (BitVec.ofNat 32 n).toNat = n := toNat_ofNat_of_lt (lt_trans hc (by norm_num))
  have hs : IntOp.shrsi ArithUnit.vector (BitVec.ofNat 32 n) 31#32 = 0#32 := by
    show (BitVec.ofNat 32 n).sshiftRight _ = 0#32
    rw [BitVec.sshiftRight_eq_of_msb_false (BitVec.msb_eq_false_iff_two_mul_lt.mpr (by rw [hn]; omega))]
    apply BitVec.eq_of_toNat_eq
    rw [BitVec.toNat_ushiftRight, hn, Nat.shiftRight_eq_div_pow]
    exact Nat.div_eq_of_lt (lt_trans hc (by decide))
  rw [hs]
  show BitVec.ofNat 32 n ^^^ (0#32 &&& 2147483647#32) = _
  simp

/-- The mask's entry: zero at the 253 channels that stand first, one elsewhere. -/
theorem maskOf_at (S : Vec Ideal S64x1x768 .f32) (r : Fin 64) (c : Fin 768) :
    maskOf (F := Ideal) S (Idealize.ShloMosaic.ix2 r c)
      = if rank (fun x : Fin 768 => S (Idealize.ShloMosaic.ix3 r (0 : Fin 1) x)) c < 253 then (0 : EReal) else 1 := by
  have hk : ∀ c, code (fun x : Fin 768 => S (Idealize.ShloMosaic.ix3 r (0 : Fin 1) x)) c < 2 ^ 31 :=
    fun c => lt_of_le_of_lt (code_le _ _) (by norm_num)
  obtain ⟨T, h1, h2, h3, h4⟩ := thr_at (k0_pay3 (F := Ideal) S) r _ hk (key_at S r)
  rw [maskOf_eq, fin_at (k0_pay3 (F := Ideal) S) r _ hk (key_at S r) _ T h1 h4 h2 h3 c, rank_code]

end Cert.KernelIdeal.Launch

end
-- ==== Proof.Rows.lean ====
/- One batch row over the extended reals: the class projection of its pooled channels, and its channel scores. -/
module

public import proofs.«01_k».proof.Proof.Mask
public import Idealize.ShloMosaic.Lib.Pointwise
public import Idealize.ShloMosaic.Lib.IdealHost

@[expose] public section

set_option maxRecDepth 16384

noncomputable section

namespace Cert.KernelIdeal.Launch

open Idealize.ShloMosaic Idealize.ShloMosaic.TcCoe
open Cert.KernelIdeal.Gen

/-- The class projection of a row: the pooled channels against the weights, and the bias. -/
theorem yrow_at (xb : Vec Ideal S1x768x576 .f32) (w : Vec Ideal S4x768 .f32) (b : Vec Ideal S1x4 .f32) (k : Fin 4) :
    k0_pay27 (F := Ideal) xb w b (Idealize.ShloMosaic.ix3 (0 : Fin 1) (0 : Fin 1) k)
      = (∑ x : Fin 768, Ideal.div (∑ p : Fin 576, xb (Idealize.ShloMosaic.ix3 (0 : Fin 1) x p)) (Ideal.ofBits .f32 1141899264#32)
          * w (Idealize.ShloMosaic.ix2 k x)) + b (Idealize.ShloMosaic.ix2 (0 : Fin 1) k) := by
  pointwise [k0_pay27, k0_pay26, k0_pay25]

/-- The weight of channel `c` for the label word `l`: the table's columns summed against the label's indicator. -/
def wordWeight (l : BitVec 32) (wt : Vec Ideal S768x4 .f32) (c : Fin 768) : EReal :=
  ∑ k : Fin 4, wt (Idealize.ShloMosaic.ix2 c k)
    * FloatOps.sitofp (F := Ideal) FTy.f32 (BitVec.setWidth 32 (IntOp.cmpi .eq (BitVec.ofNat 32 k.val) l))

/-- A channel's score: the mean over the pixels of its weighted value, less the pixel's least and times the inverse of its spread. -/
theorem crow_at (l : BitVec 32) (xb : Vec Ideal S1x768x576 .f32) (wt : Vec Ideal S768x4 .f32) (c : Fin 768) :
    k0_pay1 (F := Ideal) (k0_pay43 l xb wt) (Idealize.ShloMosaic.ix3 (0 : Fin 1) (0 : Fin 1) c)
      = Ideal.div (∑ p : Fin 576,
          (xb (Idealize.ShloMosaic.ix3 (0 : Fin 1) c p) * wordWeight l wt c
            - Finset.fold min (Ideal.ofBits .f32 2139095040#32) (fun y : Fin 768 => xb (Idealize.ShloMosaic.ix3 (0 : Fin 1) y p) * wordWeight l wt y) Finset.univ)
          * Ideal.div 1
            (Finset.fold max (Ideal.ofBits .f32 4286578688#32) (fun y : Fin 768 => xb (Idealize.ShloMosaic.ix3 (0 : Fin 1) y p) * wordWeight l wt y) Finset.univ
              - Finset.fold min (Ideal.ofBits .f32 2139095040#32) (fun y : Fin 768 => xb (Idealize.ShloMosaic.ix3 (0 : Fin 1) y p) * wordWeight l wt y) Finset.univ))
        (Ideal.ofBits .f32 1141899264#32) := by
  unfold wordWeight
  pointwise [k0_pay1, k0_pay43, k0_pay42, k0_pay41]

/-- A label in range picks its own column. -/
theorem wordWeight_label (k : Fin 4) (wt : Vec Ideal S768x4 .f32) (c : Fin 768) :
    wordWeight (BitVec.ofNat 32 k.val) wt c = wt (Idealize.ShloMosaic.ix2 c k) := by
  unfold wordWeight
  rw [Finset.sum_eq_single k]
  · rw [mark_value, if_pos (by rw [WordCmp.cmpi_eq_ofNat_eq_one_iff (w := 32) (lt_trans k.isLt (by norm_num)) (lt_trans k.isLt (by norm_num))])]
    simp
  · intro q _ hq
    rw [mark_value, if_neg (by
      rw [WordCmp.cmpi_eq_ofNat_eq_one_iff (w := 32) (lt_trans q.isLt (by norm_num)) (lt_trans k.isLt (by norm_num))]
      exact fun e => hq (Fin.ext e))]
    simp
  · exact fun h => absurd (Finset.mem_univ k) h

end Cert.KernelIdeal.Launch

end
-- ==== Proof.Equation.lean ====
/- The two programs' rows, equal: a row of logits, a row of scores. -/
module

public import proofs.«01_k».proof.Proof.Rows
public import proofs.«01_k».proof.Proof.RefRows
public import Idealize.ShloMosaic.Lib.Pipeline.ValueKit.Acc

@[expose] public section

set_option maxRecDepth 16384

noncomputable section

namespace Cert.Equation

open Idealize.ShloMosaic Idealize.ShloMosaic.TcCoe
open Cert.KernelIdeal Cert.KernelIdeal.Launch

/-- Dividing by a number that is not zero is multiplying by its inverse. -/
theorem mul_inverse (a d : EReal) (hd : d ≠ 0) : a * Ideal.div 1 d = Ideal.div a d := by
  unfold Ideal.div
  rw [if_neg hd, if_neg hd, one_mul]

/-- The row and the column of pixel `p`. -/
def across (p : Fin 576) : Fin 24 := ⟨p.val / 24, by omega⟩
def along (p : Fin 576) : Fin 24 := ⟨p.val % 24, by omega⟩

/-- A plane of pixels, laid out as 24 rows of 24. -/
def Plane (xb : Vec Ideal S1x768x576 .f32) (X : Vec Ideal S64x768x24x24 .f32) (r : Fin 64) : Prop :=
  ∀ (y : Fin 768) (p : Fin 576), xb (Idealize.ShloMosaic.ix3 (0 : Fin 1) y p)
    = X (Idealize.ShloMosaic.ix4 r y (across p) (along p))

/-- A row of logits. -/
theorem logits_row (X : Vec Ideal S64x768x24x24 .f32) (W : Vec Ideal S4x768 .f32) (B : Vec Ideal S4 .f32) (r : Fin 64)
    (xb : Vec Ideal S1x768x576 .f32) (hx : Plane xb X r) (b : Vec Ideal S1x4 .f32)
    (hb : ∀ k : Fin 4, b (Idealize.ShloMosaic.ix2 (0 : Fin 1) k) = B (Idealize.ShloMosaic.ix1 k)) (k : Fin 4) :
    yrow (F := Ideal) xb W b (Idealize.ShloMosaic.ix3 (0 : Fin 1) (0 : Fin 1) k)
      = Cert.ReferenceIdeal.Rows.logits (F := Ideal) X W B (Idealize.ShloMosaic.ix2 r k) := by
  refine (yrow_at xb W b k).trans (Eq.trans ?_ (Cert.ReferenceIdeal.Rows.logits_at X W B r k).symm)
  rw [hb]
  refine congrArg (fun s : EReal => s + B (Idealize.ShloMosaic.ix1 k)) (Finset.sum_congr rfl fun y _ => ?_)
  rw [Cert.ReferenceIdeal.Rows.mean_at]
  refine congrArg (fun s : EReal => Ideal.div s _ * W (Idealize.ShloMosaic.ix2 k y)) ?_
  refine (Finset.sum_congr rfl fun p _ => hx y p).trans ?_
  exact Fin.sum_divmod_fin 24 (fun h w : Fin 24 => (X (Idealize.ShloMosaic.ix4 r y h w) : EReal)) rfl

/-- A row of scores, for a label in range and pixels whose spread is not zero. -/
theorem scores_row (X : Vec Ideal S64x768x24x24 .f32) (l : IVec S64 32) (W : Vec Ideal S4x768 .f32) (r : Fin 64) (k : Fin 4)
    (hl : l (Idealize.ShloMosaic.ix1 r) = BitVec.ofNat 32 k.val)
    (hs : ∀ h w : Fin 24, Cert.ReferenceIdeal.Rows.greatest (F := Ideal) (Cert.ReferenceIdeal.Rows.weighted X (Cert.ReferenceIdeal.Rows.picked l W)) (Idealize.ShloMosaic.ix3 r h w)
      - Cert.ReferenceIdeal.Rows.least (F := Ideal) (Cert.ReferenceIdeal.Rows.weighted X (Cert.ReferenceIdeal.Rows.picked l W)) (Idealize.ShloMosaic.ix3 r h w) ≠ 0)
    (xb : Vec Ideal S1x768x576 .f32) (hx : Plane xb X r) (wt : Vec Ideal S768x4 .f32)
    (hw : ∀ (c : Fin 768) (k : Fin 4), wt (Idealize.ShloMosaic.ix2 c k) = W (Idealize.ShloMosaic.ix2 k c)) (c : Fin 768) :
    crow (F := Ideal) (l (Idealize.ShloMosaic.ix1 r)) xb wt (Idealize.ShloMosaic.ix3 (0 : Fin 1) (0 : Fin 1) c)
      = Cert.ReferenceIdeal.Rows.scores (F := Ideal) (Cert.ReferenceIdeal.Rows.weighted X (Cert.ReferenceIdeal.Rows.picked l W)) (Idealize.ShloMosaic.ix2 r c) := by
  refine (crow_at _ xb wt c).trans ?_
  unfold Cert.ReferenceIdeal.Rows.scores
  refine Eq.trans ?_ (Cert.ReferenceIdeal.Rows.mean_at _ r c).symm
  refine congrArg (fun s : EReal => Ideal.div s (Ideal.ofBits .f32 1141899264#32)) ?_
  generalize ht : Cert.ReferenceIdeal.Rows.weighted (F := Ideal) X (Cert.ReferenceIdeal.Rows.picked l W) = t at hs ⊢
  have hT : ∀ (y : Fin 768) (p : Fin 576), xb (Idealize.ShloMosaic.ix3 (0 : Fin 1) y p) * wordWeight (l (Idealize.ShloMosaic.ix1 r)) wt y
      = t (Idealize.ShloMosaic.ix4 r y (across p) (along p)) := by
    intro y p
    rw [← ht, Cert.ReferenceIdeal.Rows.weighted_at, Cert.ReferenceIdeal.Rows.picked_at l W r y k hl, hl, wordWeight_label, hw, hx y p]
  simp only [hT]
  refine Eq.trans ?_ (Fin.sum_divmod_fin 24 (fun h w : Fin 24 => Cert.ReferenceIdeal.Rows.normed (F := Ideal) t (Cert.ReferenceIdeal.Rows.greatest t)
    (Cert.ReferenceIdeal.Rows.least t) (Idealize.ShloMosaic.ix4 r c h w)) rfl)
  refine Finset.sum_congr rfl fun p _ => ?_
  rw [Cert.ReferenceIdeal.Rows.normed_at, Cert.ReferenceIdeal.Rows.greatest_at, Cert.ReferenceIdeal.Rows.least_at]
  refine mul_inverse _ _ ?_
  have h := hs (across p) (along p)
  rwa [Cert.ReferenceIdeal.Rows.greatest_at, Cert.ReferenceIdeal.Rows.least_at] at h

end Cert.Equation

end
-- ==== Proof.Algebraic.lean ====
/- From arguments that satisfy the precondition, the kernel and the reference end with the same two results. -/
module

public import proofs.«01_k».proof.Defs
public import proofs.«01_k».proof.Proof.Frames
public import proofs.«01_k».proof.Proof.Result
public import proofs.«01_k».proof.Proof.RefMask
public import proofs.«01_k».proof.Proof.Valid
public import proofs.«01_k».proof.Proof.Equation

@[expose] public section

set_option maxRecDepth 16384

noncomputable section

namespace Cert.Proof

open Idealize.ShloMosaic Idealize.ShloMosaic.TcCoe Idealize.SL.Sem
open Cert.KernelIdeal Cert.KernelIdeal.Gen Cert.KernelIdeal.Launch

/-- An index of a matrix is its two coordinates. -/
theorem pair_eq {a b : ℕ} (j : (⟨2, ![a, b]⟩ : Shape).Idx) : j = Idealize.ShloMosaic.ix2 (j 0 : Fin a) (j 1 : Fin b) := by
  funext q
  match q with
  | ⟨0, _⟩ => rfl
  | ⟨1, _⟩ => rfl

/-! ## The host lines around the kernel, at an index -/

theorem plane_at (X : FVec Ideal S64x768x24x24 .f32) (r : Fin 64) (y : Fin 768) (p : Fin 576) :
    shapeCast S64x768x576 X shapeCasts_S64x768x24x24_S64x768x576 (Idealize.ShloMosaic.ix3 r y p)
      = X (Idealize.ShloMosaic.ix4 r y (Cert.Equation.across p) (Cert.Equation.along p)) := by
  pointwise
  rfl

theorem turned_at (W : FVec Ideal S4x768 .f32) (c : Fin 768) (k : Fin 4) :
    transpose S768x4 [1, 0] W transposes_S4x768_S768x4_1_0 (Idealize.ShloMosaic.ix2 c k) = W (Idealize.ShloMosaic.ix2 k c) := by
  pointwise

theorem bias_at (B : FVec Ideal S4 .f32) (k : Fin 4) :
    shapeCast S1x4 B shapeCasts_S4_S1x4 (Idealize.ShloMosaic.ix2 (0 : Fin 1) k) = B (Idealize.ShloMosaic.ix1 k) := by
  pointwise

theorem flat_at (Y : FVec Ideal S64x1x4 .f32) (r : Fin 64) (k : Fin 4) :
    shapeCast S64x4 Y shapeCasts_S64x1x4_S64x4 (Idealize.ShloMosaic.ix2 r k) = Y (Idealize.ShloMosaic.ix3 r (0 : Fin 1) k) := by
  pointwise

/-! ## The two results -/

variable (m : (ℓ : Loc nD τ sig) → Buf (Elt Ideal) ℓ)

theorem plane (c : Dev nD) (r : Fin 64) :
    Cert.Equation.Plane (slab (iblk m (ok_all m) c 0 (ptOf m (ok_all m) r)) ⟨r.val % 4, Nat.mod_lt _ (by decide)⟩)
      (m ((c : Thread nD τ).loc main_arg0)) r :=
  fun y p => (slab_at m (ok_all m) c r y p 0).trans (plane_at _ r y p)

/-- The logits. -/
theorem logits_eq (c : Dev nD) : shapeCast S64x4 (logitsArr m (ok_all m) c) shapeCasts_S64x1x4_S64x4
    = Cert.ReferenceIdeal.Rows.logits (F := Ideal) (m ((c : Thread nD τ).loc main_arg0)) (m ((c : Thread nD τ).loc main_arg2))
        (m ((c : Thread nD τ).loc main_arg3)) := by
  funext j
  obtain ⟨r, k, rfl⟩ : ∃ (r : Fin 64) (k : Fin 4), j = Idealize.ShloMosaic.ix2 r k := ⟨_, _, pair_eq j⟩
  refine (flat_at _ r k).trans ?_
  show yrow (slab (iblk m (ok_all m) c 0 (ptOf m (ok_all m) r)) ⟨r.val % 4, Nat.mod_lt _ (by decide)⟩) (iblk m (ok_all m) c 1 (ptOf m (ok_all m) r))
    (iblk m (ok_all m) c 3 (ptOf m (ok_all m) r)) (Idealize.ShloMosaic.ix3 (0 : Fin 1) (0 : Fin 1) k) = _
  rw [iblk_w, iblk_b]
  exact Cert.Equation.logits_row _ _ _ r _ (plane m c r) _ (bias_at _) k

/-- The scores, for arguments that satisfy the precondition. -/
theorem scores_eq (c : Dev nD) (h : Cert.Pre_KernelIdeal_valid_inputs (hPre_valid_inputs := Cert.Valid.facts) m) (r : Fin 64) (x : Fin 768) :
    scores m (ok_all m) c (Idealize.ShloMosaic.ix3 r (0 : Fin 1) x)
      = Cert.ReferenceIdeal.Rows.scores (F := Ideal) (Cert.ReferenceIdeal.Rows.weighted (m ((c : Thread nD τ).loc main_arg0))
          (Cert.ReferenceIdeal.Rows.picked (F := Ideal) (m ((c : Thread nD τ).loc main_arg1)) (m ((c : Thread nD τ).loc main_arg2)))) (Idealize.ShloMosaic.ix2 r x) := by
  obtain rfl : c = 0 := Subsingleton.elim _ _
  obtain ⟨hl, hs⟩ := Cert.Valid.holds _ _ _ _ (h 0)
  obtain ⟨k, hk⟩ := hl r
  show crow (lbls m (Idealize.ShloMosaic.ix1 r)) (slab (iblk m (ok_all m) 0 0 (ptOf m (ok_all m) r)) ⟨r.val % 4, Nat.mod_lt _ (by decide)⟩)
    (iblk m (ok_all m) 0 2 (ptOf m (ok_all m) r)) (Idealize.ShloMosaic.ix3 (0 : Fin 1) (0 : Fin 1) x) = _
  rw [lbls_eq, iblk_wt]
  exact Cert.Equation.scores_row _ _ _ r k hk (hs r) _ (plane m 0 r) _ (turned_at _) x

/-- The masks: both are zero at the channels of rank below 253 by their scores. -/
theorem mask_same (c : Dev nD) (h : Cert.Pre_KernelIdeal_valid_inputs (hPre_valid_inputs := Cert.Valid.facts) m) :
    maskOf (F := Ideal) (scores m (ok_all m) c)
      = Cert.ReferenceIdeal.Rows.mask (F := Ideal) (Cert.ReferenceIdeal.Rows.dropped (Cert.ReferenceIdeal.Rows.scores
          (Cert.ReferenceIdeal.Rows.weighted (m ((c : Thread nD τ).loc main_arg0))
            (Cert.ReferenceIdeal.Rows.picked (F := Ideal) (m ((c : Thread nD τ).loc main_arg1)) (m ((c : Thread nD τ).loc main_arg2)))))) := by
  funext j
  obtain ⟨r, x, rfl⟩ : ∃ (r : Fin 64) (x : Fin 768), j = Idealize.ShloMosaic.ix2 r x := ⟨_, _, pair_eq j⟩
  refine (maskOf_at _ r x).trans (Eq.trans ?_ (Cert.ReferenceIdeal.Rows.mask_rank _ r x).symm)
  rw [show (fun x : Fin 768 => scores m (ok_all m) c (Idealize.ShloMosaic.ix3 r (0 : Fin 1) x)) = _ from funext fun x => scores_eq m c h r x]

/-- The kernel's run, with its results at the reference's functions of the arguments. -/
theorem run_kernel (g : Dev nD → PrngReg) (h : Cert.Pre_KernelIdeal_valid_inputs (hPre_valid_inputs := Cert.Valid.facts) m) :
    θ_run (defs (F := Ideal)) (onTc (τ := τ) (main (F := Ideal))) ⟨m, fun _ => 0, g⟩ (fun r => ∀ c : Dev nD,
      r.2.mem ((c.tc : Thread nD τ).loc main_v4) = Cert.ReferenceIdeal.Rows.logits (F := Ideal) (m ((c.tc : Thread nD τ).loc main_arg0))
          (m ((c.tc : Thread nD τ).loc main_arg2)) (m ((c.tc : Thread nD τ).loc main_arg3))
      ∧ r.2.mem ((c.tc : Thread nD τ).loc main_v5) = shapeCast S64x768x1x1 (Cert.ReferenceIdeal.Rows.mask (F := Ideal)
          (Cert.ReferenceIdeal.Rows.dropped (Cert.ReferenceIdeal.Rows.scores (Cert.ReferenceIdeal.Rows.weighted (m ((c.tc : Thread nD τ).loc main_arg0))
            (Cert.ReferenceIdeal.Rows.picked (F := Ideal) (m ((c.tc : Thread nD τ).loc main_arg1)) (m ((c.tc : Thread nD τ).loc main_arg2))))))) shapeCasts_S64x768_S64x768x1x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r k c =>
    ⟨((k.1 c).2 main_v4 (by decide : main_v4 ∈ Pipeline.restRefs sig spec0)).trans ((W_main_v4 m (ok_all m) c).trans (logits_eq m c)),
      ((k.1 c).2 main_v5 (by decide : main_v5 ∈ Pipeline.restRefs sig spec0)).trans ((W_main_v5 m (ok_all m) c).trans
        (congrArg (fun M => shapeCast S64x768x1x1 M shapeCasts_S64x768_S64x768x1x1) (mask_same m c h))),
      ((k.1 c).2 main_arg0 (by decide : main_arg0 ∈ Pipeline.restRefs sig spec0)).trans (W_main_arg0 m (ok_all m) _ c),
      ((k.1 c).2 main_arg1 (by decide : main_arg1 ∈ Pipeline.restRefs sig spec0)).trans (W_main_arg1 m (ok_all m) _ c),
      ((k.1 c).1 1).trans (((dats m (ok_all m) 0 c).arrAt_in 1 rfl _).trans ((A_eq m (ok_all m) c 1).trans (V_main_arg2 m c))),
      ((k.1 c).2 main_arg3 (by decide : main_arg3 ∈ Pipeline.restRefs sig spec0)).trans (W_main_arg3 m (ok_all m) _ c)⟩) (run_main m g (ok_all m))

/-- The reference's run, with its results by name. -/
theorem run_reference (m' : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g⟩
      (fun r => ∀ c : Dev Cert.ReferenceIdeal.nD,
        r.2.mem ((c.tc : Thread Cert.ReferenceIdeal.nD Cert.ReferenceIdeal.τ).loc Cert.ReferenceIdeal.main_v7)
          = Cert.ReferenceIdeal.Rows.logits (F := Ideal) (m' (c.tc.loc Cert.ReferenceIdeal.main_arg0))
            (m' (c.tc.loc Cert.ReferenceIdeal.main_arg2)) (m' (c.tc.loc Cert.ReferenceIdeal.main_arg3))
        ∧ r.2.mem ((c.tc : Thread Cert.ReferenceIdeal.nD Cert.ReferenceIdeal.τ).loc Cert.ReferenceIdeal.main_v49)
          = shapeCast S64x768x1x1 (Cert.ReferenceIdeal.Rows.mask (F := Ideal) (Cert.ReferenceIdeal.Rows.dropped (Cert.ReferenceIdeal.Rows.scores
              (Cert.ReferenceIdeal.Rows.weighted (m' (c.tc.loc Cert.ReferenceIdeal.main_arg0)) (Cert.ReferenceIdeal.Rows.picked (F := Ideal)
                (m' (c.tc.loc Cert.ReferenceIdeal.main_arg1)) (m' (c.tc.loc Cert.ReferenceIdeal.main_arg2))))))) shapeCasts_S64x768_S64x768x1x1
        ∧ r.2.mem (c.tc.loc Cert.ReferenceIdeal.main_arg0) = m' (c.tc.loc Cert.ReferenceIdeal.main_arg0)
        ∧ r.2.mem (c.tc.loc Cert.ReferenceIdeal.main_arg1) = m' (c.tc.loc Cert.ReferenceIdeal.main_arg1)
        ∧ r.2.mem (c.tc.loc Cert.ReferenceIdeal.main_arg2) = m' (c.tc.loc Cert.ReferenceIdeal.main_arg2)
        ∧ r.2.mem (c.tc.loc Cert.ReferenceIdeal.main_arg3) = m' (c.tc.loc Cert.ReferenceIdeal.main_arg3)) :=
  (θ_run Cert.ReferenceIdeal.defs _ _).mono
    (fun r k c => ⟨(k c).1, (k c).2.1.trans (Cert.ReferenceIdeal.Rows.mask_eq m' c), (k c).2.2⟩)
    (Cert.ReferenceIdeal.Value.run (F := Ideal) m' g)

/-- Equal results from arguments that agree and satisfy the precondition. -/
theorem equal : Cert.algebraic_KernelIdeal_ReferenceIdeal_pre_valid_inputs (hKernelIdeal := Cert.KernelIdeal.Gen.facts)
    (hReferenceIdeal := Cert.ReferenceIdeal.Gen.facts) (hPre_valid_inputs := Cert.Valid.facts) := by
  intro m g m' g' h hargs
  refine ⟨_, _, run_kernel m g h, (θ_run Cert.ReferenceIdeal.defs _ _).mono (fun r k c => ?_) (run_reference m' g')⟩
  have hc := k c
  obtain ⟨e0, e1, e2, e3⟩ := hargs c
  refine ⟨hc.1.trans ?_, hc.2.1.trans ?_, hc.2.2⟩
  · rw [e0, e2, e3]
  · rw [e0, e1, e2]

end Cert.Proof

end
-- ==== Proof.lean ====
/- The certificate: the frames of the kernel and of the reference, that the idealized program is the kernel, and that
   kernel and reference give equal results over the extended reals. -/
module

public import proofs.«01_k».proof.Defs
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Valid.facts,
  frame_kernel, frame_ideal, fun m g _ => frame_ideal m g trivial, frame_reference, fun m g _ => frame_reference m g trivial,
  trivial, equal⟩

end Cert.Proof

end
